-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  IdealRules.named_const.Statement Cert.KernelIdeal.κ "qscale" .f32 0x3E38AA3B#32 (((1 / 8) * (Real.log 2)⁻¹ : ℝ) : EReal)
  ∧ IdealRules.named_const.Statement Cert.KernelIdeal.κ "erfscale" .bf16 0x3CB5#16 (((1 / 32) * (Real.sqrt 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x2048x768 : Shape := ⟨3, ![1, 2048, 768]⟩
abbrev S768 : Shape := ⟨1, ![768]⟩
abbrev S768x2304 : Shape := ⟨2, ![768, 2304]⟩
abbrev S2304 : Shape := ⟨1, ![2304]⟩
abbrev S768x768 : Shape := ⟨2, ![768, 768]⟩
abbrev S768x3072 : Shape := ⟨2, ![768, 3072]⟩
abbrev S3072 : Shape := ⟨1, ![3072]⟩
abbrev S3072x768 : Shape := ⟨2, ![3072, 768]⟩
abbrev S_ : Shape := ⟨0, ![]⟩

class Facts : Prop where
  bcast_S_S1x2048x768 : S_.BroadcastsInDim S1x2048x768 (![] : Fin 0 → Fin S1x2048x768.rank)
  reducesTo_S1x2048x768_S_d0_1_2 : S1x2048x768.ReducesTo [0, 1, 2] S_
  h_S_ : 0 < S_.numel
  bcast_S_S768 : S_.BroadcastsInDim S768 (![] : Fin 0 → Fin S768.rank)
  reducesTo_S768_S_d0 : S768.ReducesTo [0] S_
  bcast_S_S768x2304 : S_.BroadcastsInDim S768x2304 (![] : Fin 0 → Fin S768x2304.rank)
  reducesTo_S768x2304_S_d0_1 : S768x2304.ReducesTo [0, 1] S_
  bcast_S_S2304 : S_.BroadcastsInDim S2304 (![] : Fin 0 → Fin S2304.rank)
  reducesTo_S2304_S_d0 : S2304.ReducesTo [0] S_
  bcast_S_S768x768 : S_.BroadcastsInDim S768x768 (![] : Fin 0 → Fin S768x768.rank)
  reducesTo_S768x768_S_d0_1 : S768x768.ReducesTo [0, 1] S_
  bcast_S_S768x3072 : S_.BroadcastsInDim S768x3072 (![] : Fin 0 → Fin S768x3072.rank)
  reducesTo_S768x3072_S_d0_1 : S768x3072.ReducesTo [0, 1] S_
  bcast_S_S3072 : S_.BroadcastsInDim S3072 (![] : Fin 0 → Fin S3072.rank)
  reducesTo_S3072_S_d0 : S3072.ReducesTo [0] S_
  bcast_S_S3072x768 : S_.BroadcastsInDim S3072x768 (![] : Fin 0 → Fin S3072x768.rank)
  reducesTo_S3072x768_S_d0_1 : S3072x768.ReducesTo [0, 1] S_

variable [Facts]

def fn_part4 {F : FTy → Type} [FloatOps F] (main_arg14 : FVec F S768 .f32) (main_v64 : IVec S_ 1) (main_v67 : IVec S768 1) : IVec S_ 1 :=
  let main_c_26 : IVec S_ 1 := constantI S_ 1 1#1
  let main_v68 : IVec S_ 1 := (fun x v => Host.reduce IntOp.andi x v reducesTo_S768_S_d0 h_S_) main_v67 main_c_26
  let main_v69 : IVec S_ 1 := andi main_v64 main_v68
  let main_v70 : FVec F S768 .f32 := Host.absf main_arg14
  let main_cst_27 : FVec F S_ .f32 := constant S_ .f32 0x7F800000#32
  let main_v71 : FVec F S768 .f32 := broadcastInDim S768 ![] bcast_S_S768 main_cst_27
  let main_v72 : IVec S768 1 := cmpf .olt main_v70 main_v71
  let main_c_28 : IVec S_ 1 := constantI S_ 1 1#1
  let main_v73 : IVec S_ 1 := (fun x v => Host.reduce IntOp.andi x v reducesTo_S768_S_d0 h_S_) main_v72 main_c_28
  let main_v74 : IVec S_ 1 := andi main_v69 main_v73
  main_v74

def fn_part3 {F : FTy → Type} [FloatOps F] (main_arg11 : FVec F S3072 .f32) (main_arg12 : FVec F S3072x768 .f32) (main_arg13 : FVec F S768 .f32) (main_arg14 : FVec F S768 .f32) (main_v49 : IVec S_ 1) (main_v50 : FVec F S768x3072 .f32) : IVec S_ 1 :=
  let main_cst_19 : FVec F S_ .f32 := constant S_ .f32 0x7F800000#32
  let main_v51 : FVec F S768x3072 .f32 := broadcastInDim S768x3072 ![] bcast_S_S768x3072 main_cst_19
  let main_v52 : IVec S768x3072 1 := cmpf .olt main_v50 main_v51
  let main_c_20 : IVec S_ 1 := constantI S_ 1 1#1
  let main_v53 : IVec S_ 1 := (fun x v => Host.reduce IntOp.andi x v reducesTo_S768x3072_S_d0_1 h_S_) main_v52 main_c_20
  let main_v54 : IVec S_ 1 := andi main_v49 main_v53
  let main_v55 : FVec F S3072 .f32 := Host.absf main_arg11
  let main_cst_21 : FVec F S_ .f32 := constant S_ .f32 0x7F800000#32
  let main_v56 : FVec F S3072 .f32 := broadcastInDim S3072 ![] bcast_S_S3072 main_cst_21
  let main_v57 : IVec S3072 1 := cmpf .olt main_v55 main_v56
  let main_c_22 : IVec S_ 1 := constantI S_ 1 1#1
  let main_v58 : IVec S_ 1 := (fun x v => Host.reduce IntOp.andi x v reducesTo_S3072_S_d0 h_S_) main_v57 main_c_22
  let main_v59 : IVec S_ 1 := andi main_v54 main_v58
  let main_v60 : FVec F S3072x768 .f32 := Host.absf main_arg12
  let main_cst_23 : FVec F S_ .f32 := constant S_ .f32 0x7F800000#32
  let main_v61 : FVec F S3072x768 .f32 := broadcastInDim S3072x768 ![] bcast_S_S3072x768 main_cst_23
  let main_v62 : IVec S3072x768 1 := cmpf .olt main_v60 main_v61
  let main_c_24 : IVec S_ 1 := constantI S_ 1 1#1
  let main_v63 : IVec S_ 1 := (fun x v => Host.reduce IntOp.andi x v reducesTo_S3072x768_S_d0_1 h_S_) main_v62 main_c_24
  let main_v64 : IVec S_ 1 := andi main_v59 main_v63
  let main_v65 : FVec F S768 .f32 := Host.absf main_arg13
  let main_cst_25 : FVec F S_ .f32 := constant S_ .f32 0x7F800000#32
  let main_v66 : FVec F S768 .f32 := broadcastInDim S768 ![] bcast_S_S768 main_cst_25
  let main_v67 : IVec S768 1 := cmpf .olt main_v65 main_v66
  fn_part4 (F := F) main_arg14 main_v64 main_v67

def fn_part2 {F : FTy → Type} [FloatOps F] (main_arg7 : FVec F S768 .f32) (main_arg8 : FVec F S768 .f32) (main_arg9 : FVec F S768 .f32) (main_arg10 : FVec F S768x3072 .f32) (main_arg11 : FVec F S3072 .f32) (main_arg12 : FVec F S3072x768 .f32) (main_arg13 : FVec F S768 .f32) (main_arg14 : FVec F S768 .f32) (main_v29 : IVec S_ 1) (main_v32 : IVec S768 1) (main_c_12 : IVec S_ 1) : IVec S_ 1 :=
  let main_v33 : IVec S_ 1 := (fun x v => Host.reduce IntOp.andi x v reducesTo_S768_S_d0 h_S_) main_v32 main_c_12
  let main_v34 : IVec S_ 1 := andi main_v29 main_v33
  let main_v35 : FVec F S768 .f32 := Host.absf main_arg7
  let main_cst_13 : FVec F S_ .f32 := constant S_ .f32 0x7F800000#32
  let main_v36 : FVec F S768 .f32 := broadcastInDim S768 ![] bcast_S_S768 main_cst_13
  let main_v37 : IVec S768 1 := cmpf .olt main_v35 main_v36
  let main_c_14 : IVec S_ 1 := constantI S_ 1 1#1
  let main_v38 : IVec S_ 1 := (fun x v => Host.reduce IntOp.andi x v reducesTo_S768_S_d0 h_S_) main_v37 main_c_14
  let main_v39 : IVec S_ 1 := andi main_v34 main_v38
  let main_v40 : FVec F S768 .f32 := Host.absf main_arg8
  let main_cst_15 : FVec F S_ .f32 := constant S_ .f32 0x7F800000#32
  let main_v41 : FVec F S768 .f32 := broadcastInDim S768 ![] bcast_S_S768 main_cst_15
  let main_v42 : IVec S768 1 := cmpf .olt main_v40 main_v41
  let main_c_16 : IVec S_ 1 := constantI S_ 1 1#1
  let main_v43 : IVec S_ 1 := (fun x v => Host.reduce IntOp.andi x v reducesTo_S768_S_d0 h_S_) main_v42 main_c_16
  let main_v44 : IVec S_ 1 := andi main_v39 main_v43
  let main_v45 : FVec F S768 .f32 := Host.absf main_arg9
  let main_cst_17 : FVec F S_ .f32 := constant S_ .f32 0x7F800000#32
  let main_v46 : FVec F S768 .f32 := broadcastInDim S768 ![] bcast_S_S768 main_cst_17
  let main_v47 : IVec S768 1 := cmpf .olt main_v45 main_v46
  let main_c_18 : IVec S_ 1 := constantI S_ 1 1#1
  let main_v48 : IVec S_ 1 := (fun x v => Host.reduce IntOp.andi x v reducesTo_S768_S_d0 h_S_) main_v47 main_c_18
  let main_v49 : IVec S_ 1 := andi main_v44 main_v48
  let main_v50 : FVec F S768x3072 .f32 := Host.absf main_arg10
  fn_part3 (F := F) main_arg11 main_arg12 main_arg13 main_arg14 main_v49 main_v50

def fn_part1 {F : FTy → Type} [FloatOps F] (main_arg4 : FVec F S2304 .f32) (main_arg5 : FVec F S768x768 .f32) (main_arg6 : FVec F S768 .f32) (main_arg7 : FVec F S768 .f32) (main_arg8 : FVec F S768 .f32) (main_arg9 : FVec F S768 .f32) (main_arg10 : FVec F S768x3072 .f32) (main_arg11 : FVec F S3072 .f32) (main_arg12 : FVec F S3072x768 .f32) (main_arg13 : FVec F S768 .f32) (main_arg14 : FVec F S768 .f32) (main_v14 : IVec S_ 1) (main_v15 : FVec F S768x2304 .f32) (main_cst_5 : FVec F S_ .f32) : IVec S_ 1 :=
  let main_v16 : FVec F S768x2304 .f32 := broadcastInDim S768x2304 ![] bcast_S_S768x2304 main_cst_5
  let main_v17 : IVec S768x2304 1 := cmpf .olt main_v15 main_v16
  let main_c_6 : IVec S_ 1 := constantI S_ 1 1#1
  let main_v18 : IVec S_ 1 := (fun x v => Host.reduce IntOp.andi x v reducesTo_S768x2304_S_d0_1 h_S_) main_v17 main_c_6
  let main_v19 : IVec S_ 1 := andi main_v14 main_v18
  let main_v20 : FVec F S2304 .f32 := Host.absf main_arg4
  let main_cst_7 : FVec F S_ .f32 := constant S_ .f32 0x7F800000#32
  let main_v21 : FVec F S2304 .f32 := broadcastInDim S2304 ![] bcast_S_S2304 main_cst_7
  let main_v22 : IVec S2304 1 := cmpf .olt main_v20 main_v21
  let main_c_8 : IVec S_ 1 := constantI S_ 1 1#1
  let main_v23 : IVec S_ 1 := (fun x v => Host.reduce IntOp.andi x v reducesTo_S2304_S_d0 h_S_) main_v22 main_c_8
  let main_v24 : IVec S_ 1 := andi main_v19 main_v23
  let main_v25 : FVec F S768x768 .f32 := Host.absf main_arg5
  let main_cst_9 : FVec F S_ .f32 := constant S_ .f32 0x7F800000#32
  let main_v26 : FVec F S768x768 .f32 := broadcastInDim S768x768 ![] bcast_S_S768x768 main_cst_9
  let main_v27 : IVec S768x768 1 := cmpf .olt main_v25 main_v26
  let main_c_10 : IVec S_ 1 := constantI S_ 1 1#1
  let main_v28 : IVec S_ 1 := (fun x v => Host.reduce IntOp.andi x v reducesTo_S768x768_S_d0_1 h_S_) main_v27 main_c_10
  let main_v29 : IVec S_ 1 := andi main_v24 main_v28
  let main_v30 : FVec F S768 .f32 := Host.absf main_arg6
  let main_cst_11 : FVec F S_ .f32 := constant S_ .f32 0x7F800000#32
  let main_v31 : FVec F S768 .f32 := broadcastInDim S768 ![] bcast_S_S768 main_cst_11
  let main_v32 : IVec S768 1 := cmpf .olt main_v30 main_v31
  let main_c_12 : IVec S_ 1 := constantI S_ 1 1#1
  fn_part2 (F := F) main_arg7 main_arg8 main_arg9 main_arg10 main_arg11 main_arg12 main_arg13 main_arg14 main_v29 main_v32 main_c_12

def fn {F : FTy → Type} [FloatOps F] (main_arg0 : FVec F S1x2048x768 .f32) (main_arg1 : FVec F S768 .f32) (main_arg2 : FVec F S768 .f32) (main_arg3 : FVec F S768x2304 .f32) (main_arg4 : FVec F S2304 .f32) (main_arg5 : FVec F S768x768 .f32) (main_arg6 : FVec F S768 .f32) (main_arg7 : FVec F S768 .f32) (main_arg8 : FVec F S768 .f32) (main_arg9 : FVec F S768 .f32) (main_arg10 : FVec F S768x3072 .f32) (main_arg11 : FVec F S3072 .f32) (main_arg12 : FVec F S3072x768 .f32) (main_arg13 : FVec F S768 .f32) (main_arg14 : FVec F S768 .f32) : IVec S_ 1 :=
  let main_v0 : FVec F S1x2048x768 .f32 := Host.absf main_arg0
  let main_cst : FVec F S_ .f32 := constant S_ .f32 0x7F800000#32
  let main_v1 : FVec F S1x2048x768 .f32 := broadcastInDim S1x2048x768 ![] bcast_S_S1x2048x768 main_cst
  let main_v2 : IVec S1x2048x768 1 := cmpf .olt main_v0 main_v1
  let main_c : IVec S_ 1 := constantI S_ 1 1#1
  let main_v3 : IVec S_ 1 := (fun x v => Host.reduce IntOp.andi x v reducesTo_S1x2048x768_S_d0_1_2 h_S_) main_v2 main_c
  let main_c_0 : IVec S_ 1 := constantI S_ 1 1#1
  let main_v4 : IVec S_ 1 := andi main_c_0 main_v3
  let main_v5 : FVec F S768 .f32 := Host.absf main_arg1
  let main_cst_1 : FVec F S_ .f32 := constant S_ .f32 0x7F800000#32
  let main_v6 : FVec F S768 .f32 := broadcastInDim S768 ![] bcast_S_S768 main_cst_1
  let main_v7 : IVec S768 1 := cmpf .olt main_v5 main_v6
  let main_c_2 : IVec S_ 1 := constantI S_ 1 1#1
  let main_v8 : IVec S_ 1 := (fun x v => Host.reduce IntOp.andi x v reducesTo_S768_S_d0 h_S_) main_v7 main_c_2
  let main_v9 : IVec S_ 1 := andi main_v4 main_v8
  let main_v10 : FVec F S768 .f32 := Host.absf main_arg2
  let main_cst_3 : FVec F S_ .f32 := constant S_ .f32 0x7F800000#32
  let main_v11 : FVec F S768 .f32 := broadcastInDim S768 ![] bcast_S_S768 main_cst_3
  let main_v12 : IVec S768 1 := cmpf .olt main_v10 main_v11
  let main_c_4 : IVec S_ 1 := constantI S_ 1 1#1
  let main_v13 : IVec S_ 1 := (fun x v => Host.reduce IntOp.andi x v reducesTo_S768_S_d0 h_S_) main_v12 main_c_4
  let main_v14 : IVec S_ 1 := andi main_v9 main_v13
  let main_v15 : FVec F S768x2304 .f32 := Host.absf main_arg3
  let main_cst_5 : FVec F S_ .f32 := constant S_ .f32 0x7F800000#32
  fn_part1 (F := F) main_arg4 main_arg5 main_arg6 main_arg7 main_arg8 main_arg9 main_arg10 main_arg11 main_arg12 main_arg13 main_arg14 main_v14 main_v15 main_cst_5
-- ==== Kernel.lean ====
abbrev S1x2048x768 : Shape := ⟨3, ![1, 2048, 768]⟩
abbrev S768 : Shape := ⟨1, ![768]⟩
abbrev S768x2304 : Shape := ⟨2, ![768, 2304]⟩
abbrev S2304 : Shape := ⟨1, ![2304]⟩
abbrev S768x768 : Shape := ⟨2, ![768, 768]⟩
abbrev S768x3072 : Shape := ⟨2, ![768, 3072]⟩
abbrev S3072 : Shape := ⟨1, ![3072]⟩
abbrev S3072x768 : Shape := ⟨2, ![3072, 768]⟩
abbrev S2048x768 : Shape := ⟨2, ![2048, 768]⟩
abbrev S_ : Shape := ⟨0, ![]⟩
abbrev S768x12x64 : Shape := ⟨3, ![768, 12, 64]⟩
abbrev S768x12x128 : Shape := ⟨3, ![768, 12, 128]⟩
abbrev S768x1536 : Shape := ⟨2, ![768, 1536]⟩
abbrev S12x64 : Shape := ⟨2, ![12, 64]⟩
abbrev S12x128 : Shape := ⟨2, ![12, 128]⟩
abbrev S1536 : Shape := ⟨1, ![1536]⟩
abbrev S1x768 : Shape := ⟨2, ![1, 768]⟩
abbrev S1x3072 : Shape := ⟨2, ![1, 3072]⟩
abbrev S2048x1536 : Shape := ⟨2, ![2048, 1536]⟩
abbrev S1024x768 : Shape := ⟨2, ![1024, 768]⟩
abbrev S1024x1536 : Shape := ⟨2, ![1024, 1536]⟩
abbrev S512x768 : Shape := ⟨2, ![512, 768]⟩
abbrev S512 : Shape := ⟨1, ![512]⟩
abbrev S512x1 : Shape := ⟨2, ![512, 1]⟩
abbrev S512x3072 : Shape := ⟨2, ![512, 3072]⟩
abbrev S512x1536 : Shape := ⟨2, ![512, 1536]⟩
abbrev S2048x128 : Shape := ⟨2, ![2048, 128]⟩
abbrev S2048x64 : Shape := ⟨2, ![2048, 64]⟩
abbrev S2048x2048 : Shape := ⟨2, ![2048, 2048]⟩
abbrev S2048x1 : Shape := ⟨2, ![2048, 1]⟩

abbrev nBuf : Space → Nat
  | .hbm => 74
  | .vmem => 38
  | .smem => 0
  | _ => 0

abbrev bufTy : (tb : Table) → Fin (tcTables nBuf tb) → BufTy
  | .hbm, ⟨0, _⟩ => ⟨S1x2048x768, .f32⟩
  | .hbm, ⟨1, _⟩ => ⟨S768, .f32⟩
  | .hbm, ⟨2, _⟩ => ⟨S768, .f32⟩
  | .hbm, ⟨3, _⟩ => ⟨S768x2304, .f32⟩
  | .hbm, ⟨4, _⟩ => ⟨S2304, .f32⟩
  | .hbm, ⟨5, _⟩ => ⟨S768x768, .f32⟩
  | .hbm, ⟨6, _⟩ => ⟨S768, .f32⟩
  | .hbm, ⟨7, _⟩ => ⟨S768, .f32⟩
  | .hbm, ⟨8, _⟩ => ⟨S768, .f32⟩
  | .hbm, ⟨9, _⟩ => ⟨S768, .f32⟩
  | .hbm, ⟨10, _⟩ => ⟨S768x3072, .f32⟩
  | .hbm, ⟨11, _⟩ => ⟨S3072, .f32⟩
  | .hbm, ⟨12, _⟩ => ⟨S3072x768, .f32⟩
  | .hbm, ⟨13, _⟩ => ⟨S768, .f32⟩
  | .hbm, ⟨14, _⟩ => ⟨S768, .f32⟩
  | .hbm, ⟨15, _⟩ => ⟨S2048x768, .f32⟩
  | .hbm, ⟨16, _⟩ => ⟨S768x768, .f32⟩
  | .hbm, ⟨17, _⟩ => ⟨S768x768, .f32⟩
  | .hbm, ⟨18, _⟩ => ⟨S768x768, .f32⟩
  | .hbm, ⟨19, _⟩ => ⟨S_, .f32⟩
  | .hbm, ⟨20, _⟩ => ⟨S768x768, .f32⟩
  | .hbm, ⟨21, _⟩ => ⟨S768x768, .f32⟩
  | .hbm, ⟨22, _⟩ => ⟨S768x12x64, .f32⟩
  | .hbm, ⟨23, _⟩ => ⟨S_, .f32⟩
  | .hbm, ⟨24, _⟩ => ⟨S768x12x64, .f32⟩
  | .hbm, ⟨25, _⟩ => ⟨S768x12x128, .f32⟩
  | .hbm, ⟨26, _⟩ => ⟨S768x1536, .f32⟩
  | .hbm, ⟨27, _⟩ => ⟨S768x3072, .f32⟩
  | .hbm, ⟨28, _⟩ => ⟨S768x3072, .fp8e4m3⟩
  | .hbm, ⟨29, _⟩ => ⟨S768, .f32⟩
  | .hbm, ⟨30, _⟩ => ⟨S768, .f32⟩
  | .hbm, ⟨31, _⟩ => ⟨S768, .f32⟩
  | .hbm, ⟨32, _⟩ => ⟨S_, .f32⟩
  | .hbm, ⟨33, _⟩ => ⟨S768, .f32⟩
  | .hbm, ⟨34, _⟩ => ⟨S768, .f32⟩
  | .hbm, ⟨35, _⟩ => ⟨S12x64, .f32⟩
  | .hbm, ⟨36, _⟩ => ⟨S_, .f32⟩
  | .hbm, ⟨37, _⟩ => ⟨S12x64, .f32⟩
  | .hbm, ⟨38, _⟩ => ⟨S12x128, .f32⟩
  | .hbm, ⟨39, _⟩ => ⟨S1536, .f32⟩
  | .hbm, ⟨40, _⟩ => ⟨S3072, .f32⟩
  | .hbm, ⟨41, _⟩ => ⟨S1x768, .f32⟩
  | .hbm, ⟨42, _⟩ => ⟨S1x768, .f32⟩
  | .hbm, ⟨43, _⟩ => ⟨S1x3072, .f32⟩
  | .hbm, ⟨44, _⟩ => ⟨S2048x768, .fp8e4m3⟩
  | .hbm, ⟨45, _⟩ => ⟨S2048x768, .fp8e4m3⟩
  | .hbm, ⟨46, _⟩ => ⟨S2048x1536, .fp8e4m3⟩
  | .hbm, ⟨47, _⟩ => ⟨S2048x768, .fp8e4m3⟩
  | .hbm, ⟨48, _⟩ => ⟨S768, .f32⟩
  | .hbm, ⟨49, _⟩ => ⟨S768, .f32⟩
  | .hbm, ⟨50, _⟩ => ⟨S_, .f32⟩
  | .hbm, ⟨51, _⟩ => ⟨S768x768, .f32⟩
  | .hbm, ⟨52, _⟩ => ⟨S768x768, .f32⟩
  | .hbm, ⟨53, _⟩ => ⟨S768x768, .fp8e4m3⟩
  | .hbm, ⟨54, _⟩ => ⟨S1x768, .f32⟩
  | .hbm, ⟨55, _⟩ => ⟨S1x768, .f32⟩
  | .hbm, ⟨56, _⟩ => ⟨S1x768, .f32⟩
  | .hbm, ⟨57, _⟩ => ⟨S1x768, .f32⟩
  | .hbm, ⟨58, _⟩ => ⟨S_, .f32⟩
  | .hbm, ⟨59, _⟩ => ⟨S768x3072, .f32⟩
  | .hbm, ⟨60, _⟩ => ⟨S768x3072, .f32⟩
  | .hbm, ⟨61, _⟩ => ⟨S768x3072, .fp8e4m3⟩
  | .hbm, ⟨62, _⟩ => ⟨S_, .f32⟩
  | .hbm, ⟨63, _⟩ => ⟨S3072, .f32⟩
  | .hbm, ⟨64, _⟩ => ⟨S3072, .f32⟩
  | .hbm, ⟨65, _⟩ => ⟨S1x3072, .f32⟩
  | .hbm, ⟨66, _⟩ => ⟨S_, .f32⟩
  | .hbm, ⟨67, _⟩ => ⟨S3072x768, .f32⟩
  | .hbm, ⟨68, _⟩ => ⟨S3072x768, .f32⟩
  | .hbm, ⟨69, _⟩ => ⟨S3072x768, .fp8e4m3⟩
  | .hbm, ⟨70, _⟩ => ⟨S1x768, .f32⟩
  | .hbm, ⟨71, _⟩ => ⟨S1x768, .f32⟩
  | .hbm, ⟨72, _⟩ => ⟨S2048x768, .f32⟩
  | .hbm, ⟨73, _⟩ => ⟨S1x2048x768, .f32⟩
  | .local _ .vmem, ⟨0, _⟩ => ⟨S1024x768, .f32⟩
  | .local _ .vmem, ⟨1, _⟩ => ⟨S1024x768, .f32⟩
  | .local _ .vmem, ⟨2, _⟩ => ⟨S1x768, .f32⟩
  | .local _ .vmem, ⟨3, _⟩ => ⟨S1x768, .f32⟩
  | .local _ .vmem, ⟨4, _⟩ => ⟨S768x3072, .fp8e4m3⟩
  | .local _ .vmem, ⟨5, _⟩ => ⟨S1x3072, .f32⟩
  | .local _ .vmem, ⟨6, _⟩ => ⟨S1024x768, .fp8e4m3⟩
  | .local _ .vmem, ⟨7, _⟩ => ⟨S1024x768, .fp8e4m3⟩
  | .local _ .vmem, ⟨8, _⟩ => ⟨S1024x768, .fp8e4m3⟩
  | .local _ .vmem, ⟨9, _⟩ => ⟨S1024x768, .fp8e4m3⟩
  | .local _ .vmem, ⟨10, _⟩ => ⟨S1024x1536, .fp8e4m3⟩
  | .local _ .vmem, ⟨11, _⟩ => ⟨S1024x1536, .fp8e4m3⟩
  | .local _ .vmem, ⟨12, _⟩ => ⟨S2048x128, .fp8e4m3⟩
  | .local _ .vmem, ⟨13, _⟩ => ⟨S2048x128, .fp8e4m3⟩
  | .local _ .vmem, ⟨14, _⟩ => ⟨S2048x128, .fp8e4m3⟩
  | .local _ .vmem, ⟨15, _⟩ => ⟨S2048x128, .fp8e4m3⟩
  | .local _ .vmem, ⟨16, _⟩ => ⟨S2048x128, .fp8e4m3⟩
  | .local _ .vmem, ⟨17, _⟩ => ⟨S2048x128, .fp8e4m3⟩
  | .local _ .vmem, ⟨18, _⟩ => ⟨S2048x128, .fp8e4m3⟩
  | .local _ .vmem, ⟨19, _⟩ => ⟨S2048x128, .fp8e4m3⟩
  | .local _ .vmem, ⟨20, _⟩ => ⟨S2048x128, .fp8e4m3⟩
  | .local _ .vmem, ⟨21, _⟩ => ⟨S2048x128, .fp8e4m3⟩
  | .local _ .vmem, ⟨22, _⟩ => ⟨S1024x768, .fp8e4m3⟩
  | .local _ .vmem, ⟨23, _⟩ => ⟨S1024x768, .fp8e4m3⟩
  | .local _ .vmem, ⟨24, _⟩ => ⟨S768x768, .fp8e4m3⟩
  | .local _ .vmem, ⟨25, _⟩ => ⟨S1024x768, .f32⟩
  | .local _ .vmem, ⟨26, _⟩ => ⟨S1024x768, .f32⟩
  | .local _ .vmem, ⟨27, _⟩ => ⟨S1x768, .f32⟩
  | .local _ .vmem, ⟨28, _⟩ => ⟨S1x768, .f32⟩
  | .local _ .vmem, ⟨29, _⟩ => ⟨S1x768, .f32⟩
  | .local _ .vmem, ⟨30, _⟩ => ⟨S1x768, .f32⟩
  | .local _ .vmem, ⟨31, _⟩ => ⟨S768x3072, .fp8e4m3⟩
  | .local _ .vmem, ⟨32, _⟩ => ⟨S1x3072, .f32⟩
  | .local _ .vmem, ⟨33, _⟩ => ⟨S3072x768, .fp8e4m3⟩
  | .local _ .vmem, ⟨34, _⟩ => ⟨S1x768, .f32⟩
  | .local _ .vmem, ⟨35, _⟩ => ⟨S1x768, .f32⟩
  | .local _ .vmem, ⟨36, _⟩ => ⟨S1024x768, .f32⟩
  | .local _ .vmem, ⟨37, _⟩ => ⟨S1024x768, .f32⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_1 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_2 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25_0 : Ref sig .tc := ⟨.hbm, 44, rfl⟩
abbrev main_v25_1 : Ref sig .tc := ⟨.hbm, 45, rfl⟩
abbrev main_v25_2 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_3 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_4 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_5 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_6 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg7_0 : Ref sig .tc := ⟨.vmem, 31, rfl⟩
abbrev cc2_stg8_0 : Ref sig .tc := ⟨.vmem, 32, rfl⟩
abbrev cc2_stg9_0 : Ref sig .tc := ⟨.vmem, 33, rfl⟩
abbrev cc2_stg10_0 : Ref sig .tc := ⟨.vmem, 34, rfl⟩
abbrev cc2_stg11_0 : Ref sig .tc := ⟨.vmem, 35, rfl⟩
abbrev cc2_stg12_0 : Ref sig .tc := ⟨.vmem, 36, rfl⟩
abbrev cc2_stg12_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem2_1 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem7_0 : DmaSem sig := 31
abbrev cc2_sem8_0 : DmaSem sig := 32
abbrev cc2_sem9_0 : DmaSem sig := 33
abbrev cc2_sem10_0 : DmaSem sig := 34
abbrev cc2_sem11_0 : DmaSem sig := 35
abbrev cc2_sem12_0 : DmaSem sig := 36
abbrev cc2_sem12_1 : DmaSem sig := 37

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x3072 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x768 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x768 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1536 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![6, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  let c0_i32_0 : BitVec 32 := 0#32
  ![c0_i32.toNat, v0.toNat]

def cc1_transform_3 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![c0_i32.toNat, v1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S2048x128 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x128 .fp8e4m3 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S2048x128 .fp8e4m3 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S2048x128 .fp8e4m3 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S2048x128 .fp8e4m3 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨1, ![2], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x768 .fp8e4m3 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S768x768 .fp8e4m3 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x768 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x768 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x768 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x768 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x768 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S768x3072 .fp8e4m3 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x3072 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S3072x768 .fp8e4m3 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x768 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x768 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 2 → Memref sig .tc .vmem S1024x768 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true]
-- ==== KernelIdeal.lean ====
variable {F : FTy → Type} [FloatOps F] [Named F]
def κ : String → Option EReal := fun
  | "erfscale" => some (((1 / 32) * (Real.sqrt 2)⁻¹ : ℝ) : EReal)
  | "qscale" => some (((1 / 8) * (Real.log 2)⁻¹ : ℝ) : EReal)
  | _ => none
-- ==== ReferenceIdeal.lean ====
abbrev S1x2048x768 : Shape := ⟨3, ![1, 2048, 768]⟩
abbrev S768 : Shape := ⟨1, ![768]⟩
abbrev S768x2304 : Shape := ⟨2, ![768, 2304]⟩
abbrev S2304 : Shape := ⟨1, ![2304]⟩
abbrev S768x768 : Shape := ⟨2, ![768, 768]⟩
abbrev S768x3072 : Shape := ⟨2, ![768, 3072]⟩
abbrev S3072 : Shape := ⟨1, ![3072]⟩
abbrev S3072x768 : Shape := ⟨2, ![3072, 768]⟩
abbrev S_ : Shape := ⟨0, ![]⟩
abbrev S1x2048 : Shape := ⟨2, ![1, 2048]⟩
abbrev S1x2048x1 : Shape := ⟨3, ![1, 2048, 1]⟩
abbrev S1x1x768 : Shape := ⟨3, ![1, 1, 768]⟩
abbrev S1x2048x2304 : Shape := ⟨3, ![1, 2048, 2304]⟩
abbrev S1x1x2304 : Shape := ⟨3, ![1, 1, 2304]⟩
abbrev S1x2048x3x12x64 : Shape := ⟨5, ![1, 2048, 3, 12, 64]⟩
abbrev S3x1x12x2048x64 : Shape := ⟨5, ![3, 1, 12, 2048, 64]⟩
abbrev S1x1x12x2048x64 : Shape := ⟨5, ![1, 1, 12, 2048, 64]⟩
abbrev S1x12x2048x64 : Shape := ⟨4, ![1, 12, 2048, 64]⟩
abbrev S1x12x64x2048 : Shape := ⟨4, ![1, 12, 64, 2048]⟩
abbrev S12x2048x64 : Shape := ⟨3, ![12, 2048, 64]⟩
abbrev S12x64x2048 : Shape := ⟨3, ![12, 64, 2048]⟩
abbrev S12x2048x2048 : Shape := ⟨3, ![12, 2048, 2048]⟩
abbrev S1x12x2048x2048 : Shape := ⟨4, ![1, 12, 2048, 2048]⟩
abbrev S1x12x2048 : Shape := ⟨3, ![1, 12, 2048]⟩
abbrev S1x12x2048x1 : Shape := ⟨4, ![1, 12, 2048, 1]⟩
abbrev S1x2048x12x64 : Shape := ⟨4, ![1, 2048, 12, 64]⟩
abbrev S1x2048x3072 : Shape := ⟨3, ![1, 2048, 3072]⟩
abbrev S1x1x3072 : Shape := ⟨3, ![1, 1, 3072]⟩

abbrev nBuf : Space → Nat
  | .hbm => 176
  | .vmem => 0
  | .smem => 0
  | _ => 0

abbrev hbmTy0_0 (i : Nat) : BufTy := match i % 128 with
  | 0 => ⟨S1x2048x768, .f32⟩
  | 1 => ⟨S768, .f32⟩
  | 2 => ⟨S768, .f32⟩
  | 3 => ⟨S768x2304, .f32⟩
  | 4 => ⟨S2304, .f32⟩
  | 5 => ⟨S768x768, .f32⟩
  | 6 => ⟨S768, .f32⟩
  | 7 => ⟨S768, .f32⟩
  | 8 => ⟨S768, .f32⟩
  | 9 => ⟨S768, .f32⟩
  | 10 => ⟨S768x3072, .f32⟩
  | 11 => ⟨S3072, .f32⟩
  | 12 => ⟨S3072x768, .f32⟩
  | 13 => ⟨S768, .f32⟩
  | 14 => ⟨S768, .f32⟩
  | 15 => ⟨S_, .f32⟩
  | 16 => ⟨S1x2048, .f32⟩
  | 17 => ⟨S1x2048x1, .f32⟩
  | 18 => ⟨S_, .f32⟩
  | 19 => ⟨S1x2048x1, .f32⟩
  | 20 => ⟨S1x2048x1, .f32⟩
  | 21 => ⟨S_, .i32⟩
  | 22 => ⟨S_, .f32⟩
  | 23 => ⟨S1x2048, .f32⟩
  | 24 => ⟨S1x2048x1, .f32⟩
  | 25 => ⟨S_, .f32⟩
  | 26 => ⟨S1x2048x1, .f32⟩
  | 27 => ⟨S1x2048x1, .f32⟩
  | 28 => ⟨S1x2048x768, .f32⟩
  | 29 => ⟨S1x2048x768, .f32⟩
  | 30 => ⟨S1x2048x768, .f32⟩
  | 31 => ⟨S_, .f32⟩
  | 32 => ⟨S_, .f32⟩
  | 33 => ⟨S_, .f32⟩
  | 34 => ⟨S_, .f32⟩
  | 35 => ⟨S1x2048, .f32⟩
  | 36 => ⟨S1x2048x1, .f32⟩
  | 37 => ⟨S1x2048x1, .f32⟩
  | 38 => ⟨S1x2048x1, .f32⟩
  | 39 => ⟨S_, .f32⟩
  | 40 => ⟨S_, .i1⟩
  | 41 => ⟨S_, .f32⟩
  | 42 => ⟨S_, .f32⟩
  | 43 => ⟨S1x2048x1, .f32⟩
  | 44 => ⟨S1x2048x1, .f32⟩
  | 45 => ⟨S1x2048x768, .f32⟩
  | 46 => ⟨S1x2048x768, .f32⟩
  | 47 => ⟨S_, .f32⟩
  | 48 => ⟨S1x2048x1, .f32⟩
  | 49 => ⟨S1x2048x1, .f32⟩
  | 50 => ⟨S1x2048x1, .f32⟩
  | 51 => ⟨S1x2048x768, .f32⟩
  | 52 => ⟨S1x2048x768, .f32⟩
  | 53 => ⟨S1x1x768, .f32⟩
  | 54 => ⟨S1x2048x768, .f32⟩
  | 55 => ⟨S1x2048x768, .f32⟩
  | 56 => ⟨S1x1x768, .f32⟩
  | 57 => ⟨S1x2048x768, .f32⟩
  | 58 => ⟨S1x2048x768, .f32⟩
  | 59 => ⟨S1x2048x2304, .f32⟩
  | 60 => ⟨S1x1x2304, .f32⟩
  | 61 => ⟨S1x2048x2304, .f32⟩
  | 62 => ⟨S1x2048x2304, .f32⟩
  | 63 => ⟨S1x2048x3x12x64, .f32⟩
  | 64 => ⟨S3x1x12x2048x64, .f32⟩
  | 65 => ⟨S1x1x12x2048x64, .f32⟩
  | 66 => ⟨S1x12x2048x64, .f32⟩
  | 67 => ⟨S1x1x12x2048x64, .f32⟩
  | 68 => ⟨S1x12x2048x64, .f32⟩
  | 69 => ⟨S1x1x12x2048x64, .f32⟩
  | 70 => ⟨S1x12x2048x64, .f32⟩
  | 71 => ⟨S1x12x64x2048, .f32⟩
  | 72 => ⟨S12x2048x64, .f32⟩
  | 73 => ⟨S12x64x2048, .f32⟩
  | 74 => ⟨S12x2048x2048, .f32⟩
  | 75 => ⟨S1x12x2048x2048, .f32⟩
  | 76 => ⟨S_, .f32⟩
  | 77 => ⟨S1x12x2048x2048, .f32⟩
  | 78 => ⟨S1x12x2048x2048, .f32⟩
  | 79 => ⟨S_, .f32⟩
  | 80 => ⟨S1x12x2048, .f32⟩
  | 81 => ⟨S_, .f32⟩
  | 82 => ⟨S1x12x2048, .f32⟩
  | 83 => ⟨S1x12x2048, .f32⟩
  | 84 => ⟨S1x12x2048x1, .f32⟩
  | 85 => ⟨S1x12x2048x2048, .f32⟩
  | 86 => ⟨S1x12x2048x2048, .f32⟩
  | 87 => ⟨S1x12x2048x2048, .f32⟩
  | 88 => ⟨S_, .f32⟩
  | 89 => ⟨S1x12x2048, .f32⟩
  | 90 => ⟨S1x12x2048x1, .f32⟩
  | 91 => ⟨S1x12x2048x2048, .f32⟩
  | 92 => ⟨S1x12x2048x2048, .f32⟩
  | 93 => ⟨S12x2048x2048, .f32⟩
  | 94 => ⟨S12x2048x64, .f32⟩
  | 95 => ⟨S12x2048x64, .f32⟩
  | 96 => ⟨S1x12x2048x64, .f32⟩
  | 97 => ⟨S1x2048x12x64, .f32⟩
  | 98 => ⟨S1x2048x768, .f32⟩
  | 99 => ⟨S1x2048x768, .f32⟩
  | 100 => ⟨S1x1x768, .f32⟩
  | 101 => ⟨S1x2048x768, .f32⟩
  | 102 => ⟨S1x2048x768, .f32⟩
  | 103 => ⟨S1x1x768, .f32⟩
  | 104 => ⟨S1x2048x768, .f32⟩
  | 105 => ⟨S1x2048x768, .f32⟩
  | 106 => ⟨S1x2048x768, .f32⟩
  | 107 => ⟨S_, .f32⟩
  | 108 => ⟨S1x2048, .f32⟩
  | 109 => ⟨S1x2048x1, .f32⟩
  | 110 => ⟨S_, .f32⟩
  | 111 => ⟨S1x2048x1, .f32⟩
  | 112 => ⟨S1x2048x1, .f32⟩
  | 113 => ⟨S_, .i32⟩
  | 114 => ⟨S_, .f32⟩
  | 115 => ⟨S1x2048, .f32⟩
  | 116 => ⟨S1x2048x1, .f32⟩
  | 117 => ⟨S_, .f32⟩
  | 118 => ⟨S1x2048x1, .f32⟩
  | 119 => ⟨S1x2048x1, .f32⟩
  | 120 => ⟨S1x2048x768, .f32⟩
  | 121 => ⟨S1x2048x768, .f32⟩
  | 122 => ⟨S1x2048x768, .f32⟩
  | 123 => ⟨S_, .f32⟩
  | 124 => ⟨S_, .f32⟩
  | 125 => ⟨S_, .f32⟩
  | 126 => ⟨S_, .f32⟩
  | 127 => ⟨S1x2048, .f32⟩
  | _ => ⟨S1x2048x768, .f32⟩

abbrev hbmTy0_1 (i : Nat) : BufTy := match i % 128 with
  | 0 => ⟨S1x2048x1, .f32⟩
  | 1 => ⟨S1x2048x1, .f32⟩
  | 2 => ⟨S1x2048x1, .f32⟩
  | 3 => ⟨S_, .f32⟩
  | 4 => ⟨S_, .i1⟩
  | 5 => ⟨S_, .f32⟩
  | 6 => ⟨S_, .f32⟩
  | 7 => ⟨S1x2048x1, .f32⟩
  | 8 => ⟨S1x2048x1, .f32⟩
  | 9 => ⟨S1x2048x768, .f32⟩
  | 10 => ⟨S1x2048x768, .f32⟩
  | 11 => ⟨S_, .f32⟩
  | 12 => ⟨S1x2048x1, .f32⟩
  | 13 => ⟨S1x2048x1, .f32⟩
  | 14 => ⟨S1x2048x1, .f32⟩
  | 15 => ⟨S1x2048x768, .f32⟩
  | 16 => ⟨S1x2048x768, .f32⟩
  | 17 => ⟨S1x1x768, .f32⟩
  | 18 => ⟨S1x2048x768, .f32⟩
  | 19 => ⟨S1x2048x768, .f32⟩
  | 20 => ⟨S1x1x768, .f32⟩
  | 21 => ⟨S1x2048x768, .f32⟩
  | 22 => ⟨S1x2048x768, .f32⟩
  | 23 => ⟨S1x2048x3072, .f32⟩
  | 24 => ⟨S1x1x3072, .f32⟩
  | 25 => ⟨S1x2048x3072, .f32⟩
  | 26 => ⟨S1x2048x3072, .f32⟩
  | 27 => ⟨S_, .f32⟩
  | 28 => ⟨S1x2048x3072, .f32⟩
  | 29 => ⟨S1x2048x3072, .f32⟩
  | 30 => ⟨S_, .f32⟩
  | 31 => ⟨S_, .f32⟩
  | 32 => ⟨S_, .f32⟩
  | 33 => ⟨S1x2048x3072, .f32⟩
  | 34 => ⟨S1x2048x3072, .f32⟩
  | 35 => ⟨S1x2048x3072, .f32⟩
  | 36 => ⟨S_, .f32⟩
  | 37 => ⟨S1x2048x3072, .f32⟩
  | 38 => ⟨S1x2048x3072, .f32⟩
  | 39 => ⟨S1x2048x3072, .f32⟩
  | 40 => ⟨S1x2048x768, .f32⟩
  | 41 => ⟨S1x1x768, .f32⟩
  | 42 => ⟨S1x2048x768, .f32⟩
  | 43 => ⟨S1x2048x768, .f32⟩
  | 44 => ⟨S1x1x768, .f32⟩
  | 45 => ⟨S1x2048x768, .f32⟩
  | 46 => ⟨S1x2048x768, .f32⟩
  | 47 => ⟨S1x2048x768, .f32⟩
  | _ => ⟨S1x2048x768, .f32⟩

abbrev hbmTy (i : Nat) : BufTy := match i / 128 with
  | 0 => hbmTy0_0 i
  | 1 => hbmTy0_1 i
  | _ => ⟨S1x2048x768, .f32⟩

abbrev bufTy : (tb : Table) → Fin (tcTables nBuf tb) → BufTy
  | .hbm, ⟨i, _⟩ => hbmTy i
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_cst_0 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_cst_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_cst_1 : Ref sig .tc := ⟨.hbm, 32, rfl⟩
abbrev main_call0_v8 : Ref sig .tc := ⟨.hbm, 33, rfl⟩
abbrev main_call0_cst_2 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_v12 : Ref sig .tc := ⟨.hbm, 38, rfl⟩
abbrev main_call0_cst_3 : Ref sig .tc := ⟨.hbm, 39, rfl⟩
abbrev main_call0_v13 : Ref sig .tc := ⟨.hbm, 40, rfl⟩
abbrev main_call0_cst_4 : Ref sig .tc := ⟨.hbm, 41, rfl⟩
abbrev main_call0_call0_v0 : Ref sig .tc := ⟨.hbm, 42, rfl⟩
abbrev main_call0_call0_v1 : Ref sig .tc := ⟨.hbm, 43, rfl⟩
abbrev main_v4 : Ref sig .tc := ⟨.hbm, 44, rfl⟩
abbrev main_v5 : Ref sig .tc := ⟨.hbm, 45, rfl⟩
abbrev main_v6 : Ref sig .tc := ⟨.hbm, 46, rfl⟩
abbrev main_cst_1 : Ref sig .tc := ⟨.hbm, 47, rfl⟩
abbrev main_v7 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_cst_2 : Ref sig .tc := ⟨.hbm, 76, rfl⟩
abbrev main_v35 : Ref sig .tc := ⟨.hbm, 77, rfl⟩
abbrev main_v36 : Ref sig .tc := ⟨.hbm, 78, rfl⟩
abbrev main_cst_3 : Ref sig .tc := ⟨.hbm, 79, rfl⟩
abbrev main_v37 : Ref sig .tc := ⟨.hbm, 80, rfl⟩
abbrev main_cst_4 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_cst_5 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_cst_6 : Ref sig .tc := ⟨.hbm, 107, rfl⟩
abbrev main_v62 : Ref sig .tc := ⟨.hbm, 108, rfl⟩
abbrev main_v63 : Ref sig .tc := ⟨.hbm, 109, rfl⟩
abbrev main_cst_7 : Ref sig .tc := ⟨.hbm, 110, rfl⟩
abbrev main_v64 : Ref sig .tc := ⟨.hbm, 111, rfl⟩
abbrev main_v65 : Ref sig .tc := ⟨.hbm, 112, rfl⟩
abbrev main_c_8 : Ref sig .tc := ⟨.hbm, 113, rfl⟩
abbrev main_call1_cst : Ref sig .tc := ⟨.hbm, 114, rfl⟩
abbrev main_call1_v0 : Ref sig .tc := ⟨.hbm, 115, rfl⟩
abbrev main_call1_v1 : Ref sig .tc := ⟨.hbm, 116, rfl⟩
abbrev main_call1_cst_0 : Ref sig .tc := ⟨.hbm, 117, rfl⟩
abbrev main_call1_v2 : Ref sig .tc := ⟨.hbm, 118, rfl⟩
abbrev main_call1_v3 : Ref sig .tc := ⟨.hbm, 119, rfl⟩
abbrev main_call1_v4 : Ref sig .tc := ⟨.hbm, 120, rfl⟩
abbrev main_call1_v5 : Ref sig .tc := ⟨.hbm, 121, rfl⟩
abbrev main_call1_v6 : Ref sig .tc := ⟨.hbm, 122, rfl⟩
abbrev main_call1_v7 : Ref sig .tc := ⟨.hbm, 123, rfl⟩
abbrev main_call1_cst_1 : Ref sig .tc := ⟨.hbm, 124, rfl⟩
abbrev main_call1_v8 : Ref sig .tc := ⟨.hbm, 125, rfl⟩
abbrev main_call1_cst_2 : Ref sig .tc := ⟨.hbm, 126, rfl⟩
abbrev main_call1_v9 : Ref sig .tc := ⟨.hbm, 127, rfl⟩
abbrev main_call1_v10 : Ref sig .tc := ⟨.hbm, 128, rfl⟩
abbrev main_call1_v11 : Ref sig .tc := ⟨.hbm, 129, rfl⟩
abbrev main_call1_v12 : Ref sig .tc := ⟨.hbm, 130, rfl⟩
abbrev main_call1_cst_3 : Ref sig .tc := ⟨.hbm, 131, rfl⟩
abbrev main_call1_v13 : Ref sig .tc := ⟨.hbm, 132, rfl⟩
abbrev main_call1_cst_4 : Ref sig .tc := ⟨.hbm, 133, rfl⟩
abbrev main_call1_call0_v0 : Ref sig .tc := ⟨.hbm, 134, rfl⟩
abbrev main_call1_call0_v1 : Ref sig .tc := ⟨.hbm, 135, rfl⟩
abbrev main_v66 : Ref sig .tc := ⟨.hbm, 136, rfl⟩
abbrev main_v67 : Ref sig .tc := ⟨.hbm, 137, rfl⟩
abbrev main_v68 : Ref sig .tc := ⟨.hbm, 138, rfl⟩
abbrev main_cst_9 : Ref sig .tc := ⟨.hbm, 139, rfl⟩
abbrev main_v69 : Ref sig .tc := ⟨.hbm, 140, rfl⟩
abbrev main_v70 : Ref sig .tc := ⟨.hbm, 141, rfl⟩
abbrev main_v71 : Ref sig .tc := ⟨.hbm, 142, rfl⟩
abbrev main_v72 : Ref sig .tc := ⟨.hbm, 143, rfl⟩
abbrev main_v73 : Ref sig .tc := ⟨.hbm, 144, rfl⟩
abbrev main_v74 : Ref sig .tc := ⟨.hbm, 145, rfl⟩
abbrev main_v75 : Ref sig .tc := ⟨.hbm, 146, rfl⟩
abbrev main_v76 : Ref sig .tc := ⟨.hbm, 147, rfl⟩
abbrev main_v77 : Ref sig .tc := ⟨.hbm, 148, rfl⟩
abbrev main_v78 : Ref sig .tc := ⟨.hbm, 149, rfl⟩
abbrev main_v79 : Ref sig .tc := ⟨.hbm, 150, rfl⟩
abbrev main_v80 : Ref sig .tc := ⟨.hbm, 151, rfl⟩
abbrev main_v81 : Ref sig .tc := ⟨.hbm, 152, rfl⟩
abbrev main_v82 : Ref sig .tc := ⟨.hbm, 153, rfl⟩
abbrev main_v83 : Ref sig .tc := ⟨.hbm, 154, rfl⟩
abbrev main_cst_10 : Ref sig .tc := ⟨.hbm, 155, rfl⟩
abbrev main_v84 : Ref sig .tc := ⟨.hbm, 156, rfl⟩
abbrev main_v85 : Ref sig .tc := ⟨.hbm, 157, rfl⟩
abbrev main_cst_11 : Ref sig .tc := ⟨.hbm, 158, rfl⟩
abbrev main_v86 : Ref sig .tc := ⟨.hbm, 159, rfl⟩
abbrev main_v87 : Ref sig .tc := ⟨.hbm, 160, rfl⟩
abbrev main_v88 : Ref sig .tc := ⟨.hbm, 161, rfl⟩
abbrev main_v89 : Ref sig .tc := ⟨.hbm, 162, rfl⟩
abbrev main_v90 : Ref sig .tc := ⟨.hbm, 163, rfl⟩
abbrev main_cst_12 : Ref sig .tc := ⟨.hbm, 164, rfl⟩
abbrev main_v91 : Ref sig .tc := ⟨.hbm, 165, rfl⟩
abbrev main_v92 : Ref sig .tc := ⟨.hbm, 166, rfl⟩
abbrev main_v93 : Ref sig .tc := ⟨.hbm, 167, rfl⟩
abbrev main_v94 : Ref sig .tc := ⟨.hbm, 168, rfl⟩
abbrev main_v95 : Ref sig .tc := ⟨.hbm, 169, rfl⟩
abbrev main_v96 : Ref sig .tc := ⟨.hbm, 170, rfl⟩
abbrev main_v97 : Ref sig .tc := ⟨.hbm, 171, rfl⟩
abbrev main_v98 : Ref sig .tc := ⟨.hbm, 172, rfl⟩
abbrev main_v99 : Ref sig .tc := ⟨.hbm, 173, rfl⟩
abbrev main_v100 : Ref sig .tc := ⟨.hbm, 174, rfl⟩
abbrev main_v101 : Ref sig .tc := ⟨.hbm, 175, rfl⟩

abbrev nD : Nat := 1
abbrev τ : Topo := Topo.v7x

variable {F : FTy → Type} [FloatOps F]
-- ==== Proof.Frames.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Pre_finite
public import Idealize.ShloMosaic.Lib.Quiescent

@[expose] public section

noncomputable section

open Idealize.ShloMosaic Idealize.ShloMosaic.TcCoe Idealize.SL.Sem

namespace Cert.Proof

/-- The printed kernel terminates without a fault, leaves its arguments unchanged and its counters at zero. -/
theorem frame_kernel : Cert.quiescent_Kernel := fun m ρ _ => Cert.Kernel.Gen.frame m ρ

/-- The same of the kernel read over the extended reals. -/
theorem frame_kernelIdeal : Cert.quiescent_KernelIdeal := fun m ρ _ => Cert.KernelIdeal.Gen.frame m ρ

/-- The same on finite arguments, a special case. -/
theorem frame_kernelIdeal_finite : Cert.quiescent_KernelIdeal_pre_finite :=
  fun m ρ _ => Cert.KernelIdeal.Gen.frame m ρ

/-- The reference, a list of host operations, terminates without a fault, leaves its arguments unchanged and its
    counters (it has none) at zero. -/
theorem frame_referenceIdeal : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The same on finite arguments, a special case. -/
theorem frame_referenceIdeal_finite : Cert.quiescent_ReferenceIdeal_pre_finite :=
  fun m ρ _ => frame_referenceIdeal m ρ trivial

/-- The two constants the kernel's reading names are given their real values by the table of names: the query scale
    `1 / (8 log 2)` and the scale `1 / (32 √2)` of the error function's argument. -/
theorem preserves : Cert.preserves_Kernel_KernelIdeal :=
  ⟨IdealRules.named_const.statement Cert.KernelIdeal.κ "qscale" .f32 0x3E38AA3B#32
      (((1 / 8) * (Real.log 2)⁻¹ : ℝ) : EReal) rfl,
    IdealRules.named_const.statement Cert.KernelIdeal.κ "erfscale" .bf16 0x3CB5#16
      (((1 / 32) * (Real.sqrt 2)⁻¹ : ℝ) : EReal) rfl⟩

end Cert.Proof

end
-- ==== Proof.Basics.lean ====
/- Real arrays carried into the extended reals, the values of the programs' float literals, and the layer norm of a
   row over the reals. -/
module

public import Idealize.ShloMosaic.PureOps.Ideal
public import Idealize.ShloMosaic.PureOps.IdealRules
public import Idealize.ShloMosaic.Lib.Pointwise

@[expose] public section

noncomputable section

namespace Cert.Block

open Idealize.ShloMosaic

/-- A real vector as an array of extended reals. -/
def up1 {n : Nat} (f : Fin n → ℝ) : (⟨1, ![n]⟩ : Shape).Idx → EReal := fun j => ((f (j 0) : ℝ) : EReal)

/-- A real matrix as an array of extended reals. -/
def up2 {n m : Nat} (f : Fin n → Fin m → ℝ) : (⟨2, ![n, m]⟩ : Shape).Idx → EReal :=
  fun j => ((f (j 0) (j 1) : ℝ) : EReal)

/-- A real array of three axes as an array of extended reals. -/
def up3 {n m k : Nat} (f : Fin n → Fin m → Fin k → ℝ) : (⟨3, ![n, m, k]⟩ : Shape).Idx → EReal :=
  fun j => ((f (j 0) (j 1) (j 2) : ℝ) : EReal)

/-- A real array of four axes as an array of extended reals. -/
def up4 {n m k l : Nat} (f : Fin n → Fin m → Fin k → Fin l → ℝ) : (⟨4, ![n, m, k, l]⟩ : Shape).Idx → EReal :=
  fun j => ((f (j 0) (j 1) (j 2) (j 3) : ℝ) : EReal)

/-- An entry of a raised vector. -/
theorem up1_ix {n : Nat} (f : Fin n → ℝ) (a : Fin n) : up1 f (ix1 a) = ((f a : ℝ) : EReal) := rfl

/-- An entry of a raised matrix. -/
theorem up2_ix {n m : Nat} (f : Fin n → Fin m → ℝ) (a : Fin n) (b : Fin m) :
    up2 f (ix2 a b) = ((f a b : ℝ) : EReal) := rfl

/-- An entry of a raised array of three axes. -/
theorem up3_ix {n m k : Nat} (f : Fin n → Fin m → Fin k → ℝ) (a : Fin n) (b : Fin m) (c : Fin k) :
    up3 f (ix3 a b c) = ((f a b c : ℝ) : EReal) := rfl

/-- An entry of a raised array of four axes. -/
theorem up4_ix {n m k l : Nat} (f : Fin n → Fin m → Fin k → Fin l → ℝ) (a : Fin n) (b : Fin m) (c : Fin k)
    (d : Fin l) : up4 f (ix4 a b c d) = ((f a b c d : ℝ) : EReal) := rfl

/-- A finite sum of real numbers read in the extended reals. -/
theorem coe_sum {ι : Type} (s : Finset ι) (f : ι → ℝ) :
    (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-! ## Literals -/

/-- The small number both layer norms add to the variance: the real the 32-bit word nearest `1e-5` denotes. -/
def eps : ℝ := 10995116 / 2 ^ 40

/-- The layer norm's epsilon is positive. -/
theorem eps_pos : 0 < eps := by unfold eps; norm_num

/-- The f32 literal of the row length. -/
theorem word_768 : Ideal.ofBits .f32 0x44400000#32 = ((768 : ℝ) : EReal) := by
  simp [Ideal.ofBits, Ideal.ieee, -EReal.coe_mul]; norm_num
/-- The f32 literal of the epsilon. -/
theorem word_eps : Ideal.ofBits .f32 0x3727C5AC#32 = ((eps : ℝ) : EReal) := by
  simp [Ideal.ofBits, Ideal.ieee, -EReal.coe_mul]; norm_num [eps]
/-- The f32 literal of one. -/
theorem word_1 : Ideal.ofBits .f32 0x3F800000#32 = ((1 : ℝ) : EReal) := by
  simp [Ideal.ofBits, Ideal.ieee, -EReal.coe_mul]; norm_num
/-- The f32 literal of two. -/
theorem word_2 : Ideal.ofBits .f32 0x40000000#32 = ((2 : ℝ) : EReal) := by
  simp [Ideal.ofBits, Ideal.ieee, -EReal.coe_mul]; norm_num
/-- The f32 literal of sixteen. -/
theorem word_16 : Ideal.ofBits .f32 0x41800000#32 = ((16 : ℝ) : EReal) := by
  simp [Ideal.ofBits, Ideal.ieee, -EReal.coe_mul]; norm_num
/-- The f32 literal of thirty-two. -/
theorem word_32 : Ideal.ofBits .f32 0x42000000#32 = ((32 : ℝ) : EReal) := by
  simp [Ideal.ofBits, Ideal.ieee, -EReal.coe_mul]; norm_num
/-- The f32 literal of an eighth. -/
theorem word_eighth : Ideal.ofBits .f32 0x3E000000#32 = ((1 / 8 : ℝ) : EReal) := by
  simp [Ideal.ofBits, Ideal.ieee, -EReal.coe_mul]; norm_num
/-- The f32 literal of a half. -/
theorem word_half : Ideal.ofBits .f32 0x3F000000#32 = ((1 / 2 : ℝ) : EReal) := by
  simp [Ideal.ofBits, Ideal.ieee, -EReal.coe_mul]; norm_num
/-- The f32 literal of 1/512. -/
theorem word_512th : Ideal.ofBits .f32 0x3B000000#32 = ((1 / 512 : ℝ) : EReal) := by
  simp [Ideal.ofBits, Ideal.ieee, -EReal.coe_mul]; norm_num
/-- The f32 literal of 1/256. -/
theorem word_256th : Ideal.ofBits .f32 0x3B800000#32 = ((1 / 256 : ℝ) : EReal) := by
  simp [Ideal.ofBits, Ideal.ieee, -EReal.coe_mul]; norm_num
/-- The bf16 literal of an eighth. -/
theorem word_bf_eighth : Ideal.ofBits .bf16 0x3E00#16 = ((1 / 8 : ℝ) : EReal) := by
  simp [Ideal.ofBits, Ideal.ieee, -EReal.coe_mul]; norm_num
/-- The bf16 literal of one. -/
theorem word_bf_1 : Ideal.ofBits .bf16 0x3F80#16 = ((1 : ℝ) : EReal) := by
  simp [Ideal.ofBits, Ideal.ieee, -EReal.coe_mul]; norm_num
/-- The f32 literal of minus infinity. -/
theorem word_bot : Ideal.ofBits .f32 0xFF800000#32 = ⊥ := by
  simp [Ideal.ofBits, Ideal.ieee]
/-- The f32 literal of plus infinity. -/
theorem word_top : Ideal.ofBits .f32 0x7F800000#32 = ⊤ := by
  simp [Ideal.ofBits, Ideal.ieee]

/-! ## Scalar operations on reals -/

/-- A quotient of reals by a nonzero real is the real quotient. -/
theorem div_real (a b : ℝ) (h : b ≠ 0) : Ideal.div ((a : ℝ) : EReal) ((b : ℝ) : EReal) = ((a / b : ℝ) : EReal) := by
  rw [Ideal.div_coe h, ← EReal.coe_mul, mul_one_div]

/-- The reciprocal square root of a positive real. -/
theorem rsqrt_real (a : ℝ) (h : 0 < a) : Ideal.rsqrt ((a : ℝ) : EReal) = (((Real.sqrt a)⁻¹ : ℝ) : EReal) := by
  rw [Ideal.rsqrt_coe, if_neg (not_lt.mpr h.le), if_neg h.ne']

/-- The square root of a nonnegative real. -/
theorem sqrt_real (a : ℝ) (h : 0 ≤ a) : Ideal.sqrt ((a : ℝ) : EReal) = ((Real.sqrt a : ℝ) : EReal) := by
  rw [Ideal.sqrt_coe, if_neg (not_lt.mpr h)]

/-- The error function on the reals. -/
def erfR (r : ℝ) : ℝ := 2 / Real.sqrt Real.pi * ∫ t in (0 : ℝ)..r, Real.exp (-(t ^ 2))

/-- The error function of a real number. -/
theorem erf_real (r : ℝ) : Ideal.erf ((r : ℝ) : EReal) = ((erfR r : ℝ) : EReal) := rfl

/-! ## The layer norm of a row -/

/-- The mean of a row of 768 numbers. -/
def mean (x : Fin 768 → ℝ) : ℝ := (∑ k, x k) / 768

/-- The variance of a row. -/
def var (x : Fin 768 → ℝ) : ℝ := (∑ k, (x k - mean x) * (x k - mean x)) / 768

/-- A row's variance is not negative. -/
theorem var_nonneg (x : Fin 768 → ℝ) : 0 ≤ var x :=
  div_nonneg (Finset.sum_nonneg fun _ _ => mul_self_nonneg _) (by norm_num)

/-- Variance plus epsilon is positive. -/
theorem var_eps_pos (x : Fin 768 → ℝ) : 0 < var x + eps := by
  have := var_nonneg x; have := eps_pos; linarith

/-- The layer norm of a row with gain `g` and offset `b`. -/
def ln (x g b : Fin 768 → ℝ) (k : Fin 768) : ℝ := (x k - mean x) * (Real.sqrt (var x + eps))⁻¹ * g k + b k

end Cert.Block

end
-- ==== Proof.Finite.lean ====
/- The precondition read back: arrays it holds of are arrays of real numbers. -/
module

public import proofs.«01_k».proof.Pre_finite
public import proofs.«01_k».proof.Proof.Basics
public import Idealize.ShloMosaic.Lib.ReduceAll
public import Idealize.ShloMosaic.Lib.WordCmp

@[expose] public section

noncomputable section

namespace Cert.Block

open Idealize.ShloMosaic

/-- Every entry of an array is a real number. -/
def AllReal {s : Shape} (x : s.Idx → EReal) : Prop := ∀ i, x i ≠ ⊤ ∧ x i ≠ ⊥

/-- A number whose absolute value is below infinity is a real number. -/
theorem real_of_abs (a : EReal) (h : max a (-a) < ⊤) : a ≠ ⊤ ∧ a ≠ ⊥ := by
  obtain ⟨h1, h2⟩ := max_lt_iff.1 h
  refine ⟨h1.ne, fun e => ?_⟩
  rw [e, EReal.neg_bot] at h2
  exact lt_irrefl _ h2

/-- One conjunct of the precondition, over an array of any shape: the array holds real numbers. -/
theorem real_of_all {s S0 : Shape} {axes : List (Fin s.rank)} [Subsingleton S0.Idx] (x : FVec Ideal s .f32) (y : FVec Ideal s .f32)
    (hy : ∀ i, y i = Ideal.ofBits .f32 0x7F800000#32) (v : IVec S0 1) (h : s.ReducesTo axes S0) (hu : 0 < S0.numel)
    (j : S0.Idx) (e : Host.reduce IntOp.andi (cmpf .olt (Host.absf x) y) v h hu j = 1#1) : AllReal x := fun i => by
  have e1 := Host.reduce_andi_all _ v h hu j e i
  have e2 : Ideal.cmp .olt (max (x i) (-(x i))) (y i) = 1 := e1
  rw [hy, word_top, Ideal.cmp_olt_eq_one] at e2
  exact real_of_abs _ e2

end Cert.Block

namespace Cert.Block.Pre

open Idealize.ShloMosaic Cert.Pre_finite

variable [Cert.Pre_finite.Facts]

/-- A scalar array has one index. -/
instance : Subsingleton S_.Idx := ⟨fun a b => funext fun d => d.elim0⟩

/-- Arguments the precondition holds of are arrays of real numbers. -/
theorem all_real (a0 : FVec Ideal S1x2048x768 .f32) (a1 a2 : FVec Ideal S768 .f32) (a3 : FVec Ideal S768x2304 .f32) (a4 : FVec Ideal S2304 .f32)
    (a5 : FVec Ideal S768x768 .f32) (a6 a7 a8 a9 : FVec Ideal S768 .f32) (a10 : FVec Ideal S768x3072 .f32) (a11 : FVec Ideal S3072 .f32)
    (a12 : FVec Ideal S3072x768 .f32) (a13 a14 : FVec Ideal S768 .f32)
    (h : fn (F := Ideal) a0 a1 a2 a3 a4 a5 a6 a7 a8 a9 a10 a11 a12 a13 a14 = fun _ => 1#1) :
    AllReal a0 ∧ AllReal a1 ∧ AllReal a2 ∧ AllReal a3 ∧ AllReal a4 ∧ AllReal a5 ∧ AllReal a6 ∧ AllReal a7 ∧ AllReal a8 ∧ AllReal a9 ∧ AllReal a10 ∧ AllReal a11 ∧
      AllReal a12 ∧ AllReal a13 ∧ AllReal a14 := by
  have h := congrFun h (fun d => d.elim0)
  dsimp only [fn, fn_part1, fn_part2, fn_part3, fn_part4] at h
  simp only [WordCmp.andi_at, IntOp.andi_eq_one] at h
  obtain ⟨⟨⟨⟨⟨⟨⟨⟨⟨⟨⟨⟨⟨⟨⟨-, h0⟩, h1⟩, h2⟩, h3⟩, h4⟩, h5⟩, h6⟩, h7⟩, h8⟩, h9⟩, h10⟩, h11⟩, h12⟩, h13⟩, h14⟩ := h
  exact ⟨real_of_all _ _ (fun _ => rfl) _ _ _ _ h0, real_of_all _ _ (fun _ => rfl) _ _ _ _ h1, real_of_all _ _ (fun _ => rfl) _ _ _ _ h2,
    real_of_all _ _ (fun _ => rfl) _ _ _ _ h3, real_of_all _ _ (fun _ => rfl) _ _ _ _ h4, real_of_all _ _ (fun _ => rfl) _ _ _ _ h5,
    real_of_all _ _ (fun _ => rfl) _ _ _ _ h6, real_of_all _ _ (fun _ => rfl) _ _ _ _ h7, real_of_all _ _ (fun _ => rfl) _ _ _ _ h8,
    real_of_all _ _ (fun _ => rfl) _ _ _ _ h9, real_of_all _ _ (fun _ => rfl) _ _ _ _ h10, real_of_all _ _ (fun _ => rfl) _ _ _ _ h11,
    real_of_all _ _ (fun _ => rfl) _ _ _ _ h12, real_of_all _ _ (fun _ => rfl) _ _ _ _ h13, real_of_all _ _ (fun _ => rfl) _ _ _ _ h14⟩

end Cert.Block.Pre

end
-- ==== Proof.Spec.lean ====
/- The transformer block over the real numbers, stage by stage: what both programs compute on finite arguments. -/
module

public import proofs.«01_k».proof.Proof.Basics

@[expose] public section

noncomputable section

namespace Cert.Block

/-- The fifteen arguments as real arrays. -/
structure Args where
  x : Fin 2048 → Fin 768 → ℝ
  g1 : Fin 768 → ℝ
  b1 : Fin 768 → ℝ
  W : Fin 768 → Fin 2304 → ℝ
  B : Fin 2304 → ℝ
  pw : Fin 768 → Fin 768 → ℝ
  pb : Fin 768 → ℝ
  s1 : Fin 768 → ℝ
  g2 : Fin 768 → ℝ
  b2 : Fin 768 → ℝ
  w1 : Fin 768 → Fin 3072 → ℝ
  c1 : Fin 3072 → ℝ
  w2 : Fin 3072 → Fin 768 → ℝ
  c2 : Fin 768 → ℝ
  s2 : Fin 768 → ℝ

/-- The column of the joint projection that holds coordinate `d` of head `h`: the queries' (`s = 0`), the keys'
    (`s = 1`) or the values' (`s = 2`). -/
def col (s : Fin 3) (h : Fin 12) (d : Fin 64) : Fin 2304 := ⟨(s.val * 12 + h.val) * 64 + d.val, by omega⟩

/-- The head a column of the attention's result belongs to, and the coordinate in it. -/
def hd (c : Fin 768) : Fin 12 := ⟨c.val / 64, by omega⟩
/-- The coordinate of a column within its head. -/
def co (c : Fin 768) : Fin 64 := ⟨c.val % 64, by omega⟩

namespace Args
variable (A : Args)

/-- Queries, keys and values. -/
def qkv (n : Fin 2048) (j : Fin 2304) : ℝ := ∑ k, ln (A.x n) A.g1 A.b1 k * A.W k j + A.B j

/-- The score of token `m` for token `n` in head `h`. -/
def score (h : Fin 12) (n m : Fin 2048) : ℝ := (∑ d, A.qkv n (col 0 h d) * A.qkv m (col 1 h d)) * (1 / 8)

/-- The attention of head `h`: the softmax of the scores over the tokens, applied to the values. -/
def att (h : Fin 12) (n : Fin 2048) (d : Fin 64) : ℝ :=
  ∑ m, Real.exp (A.score h n m) / (∑ m', Real.exp (A.score h n m')) * A.qkv m (col 2 h d)

/-- The tokens after the first residual step. -/
def mid (n : Fin 2048) (k : Fin 768) : ℝ :=
  A.x n k + (∑ c, A.att (hd c) n (co c) * A.pw c k + A.pb k) * A.s1 k

/-- The hidden layer before and after the Gaussian error linear unit. -/
def hid (n : Fin 2048) (j : Fin 3072) : ℝ := ∑ k, ln (A.mid n) A.g2 A.b2 k * A.w1 k j + A.c1 j
/-- The hidden layer after the Gaussian error linear unit. -/
def act (n : Fin 2048) (j : Fin 3072) : ℝ := 1 / 2 * A.hid n j * (1 + erfR (A.hid n j / Real.sqrt 2))

/-- The result. -/
def res (n : Fin 2048) (k : Fin 768) : ℝ := A.mid n k + (∑ j, A.act n j * A.w2 j k + A.c2 k) * A.s2 k

end Args

end Cert.Block

end
-- ==== Proof.KNorm.lean ====
/- The kernel's layer norm on real rows. -/
module

public import proofs.«01_k».proof.Proof.Spec
public import proofs.«01_k».proof.Proof.Gen.KernelIdeal.Skeleton
public import Idealize.ShloMosaic.Lib.Pipeline.Value

@[expose] public section

set_option maxRecDepth 16384

noncomputable section

namespace Cert.Block.Kern

open Idealize.ShloMosaic Cert.KernelIdeal Cert.KernelIdeal.Gen

/-- A half block's rows less their means. -/
def cen (x : FVec Ideal S512x768 .f32) : FVec Ideal S512x768 .f32 :=
  subf x (broadcastTo S512x768 (divf (shapeCast S512x1 (multiReduction .add [1] S512 x 0x00000000#32 reduces_S512x768_S512 (.inl rfl) rfl) shapeCasts_S512_S512x1) (broadcast S512x1 (Scalar.ofBits .f32 0x44400000#32))) broadcasts_S512x1_S512x768)

/-- Centred rows divided by the root of their variance, `y` the centred rows. -/
def unit (y : FVec Ideal S512x768 .f32) : FVec Ideal S512x768 .f32 :=
  mulf y (broadcastTo S512x768 (rsqrt (addf (divf (shapeCast S512x1 (multiReduction .add [1] S512 (mulf y y) 0x00000000#32 reduces_S512x768_S512 (.inl rfl) rfl) shapeCasts_S512_S512x1) (broadcast S512x1 (Scalar.ofBits .f32 0x44400000#32))) (broadcast S512x1 (Scalar.ofBits .f32 0x3727C5AC#32)))) broadcasts_S512x1_S512x768)

/-- The layer norm of a half block's rows. -/
def norm (x : FVec Ideal S512x768 .f32) (g b : FVec Ideal S1x768 .f32) : FVec Ideal S512x768 .f32 :=
  addf (mulf (unit (cen x)) (broadcastTo S512x768 g broadcasts_S1x768_S512x768)) (broadcastTo S512x768 b broadcasts_S1x768_S512x768)

/-- Rows less their mean, on real rows. -/
theorem cen_up (f : Fin 512 → Fin 768 → ℝ) : cen (up2 f) = up2 fun r k => f r k - mean (f r) := by
  funext j; idx_vars j
  pointwise [cen, up2]
  simp only [coe_sum]
  rw [word_768, div_real _ _ (by norm_num), ← EReal.coe_sub]
  rfl

/-- Centred real rows over their standard deviation. -/
theorem unit_up (f : Fin 512 → Fin 768 → ℝ) :
    unit (up2 fun r k => f r k - mean (f r)) = up2 fun r k => (f r k - mean (f r)) * (Real.sqrt (var (f r) + eps))⁻¹ := by
  funext j; idx_vars j
  pointwise [unit, up2]
  simp only [← EReal.coe_mul, coe_sum]
  rw [word_768, word_eps, div_real _ _ (by norm_num), ← EReal.coe_add]
  rw [show (∑ x, (f j0 x - mean (f j0)) * (f j0 x - mean (f j0))) / 768 = var (f j0) from rfl,
    rsqrt_real _ (var_eps_pos _), ← EReal.coe_mul]

/-- The layer norm of real rows. -/
theorem norm_up (f : Fin 512 → Fin 768 → ℝ) (g b : Fin 768 → ℝ) :
    norm (up2 f) (up2 (n := 1) fun _ => g) (up2 (n := 1) fun _ => b) = up2 fun r => ln (f r) g b := by
  unfold norm
  rw [cen_up, unit_up]
  funext j; idx_vars j
  pointwise [up2]
  simp only [← EReal.coe_mul, ← EReal.coe_add]
  rfl

/-- A half block's product with the joint projection. -/
def acc0 (N : FVec Ideal S512x768 .f32) (w : FVec Ideal S768x3072 .fp8e4m3) : FVec Ideal S512x3072 .f32 :=
  matmul dot_S512x768_S768x3072_S512x3072_1_0_0_1_n_n none (truncf .fp8e4m3 N bitsLt_fp8e4m3_f32) w (constant S512x3072 .f32 0x00000000#32)

/-- A product of real rows with real weights. -/
theorem acc0_up (f : Fin 512 → Fin 768 → ℝ) (w : Fin 768 → Fin 3072 → ℝ) :
    acc0 (up2 f) (up2 w) = up2 fun r j => ∑ k, f r k * w k j := by
  funext j; idx_vars j
  pointwise [acc0, up2]
  simp only [← EReal.coe_mul, coe_sum]

/-- A row added to every row of an array. -/
theorem row_up (f : Fin 512 → Fin 3072 → ℝ) (c : Fin 3072 → ℝ) :
    addf (F := Ideal) (φ := .f32) (s := S512x3072) (up2 f) (broadcastTo S512x3072 (up2 (n := 1) fun _ => c) broadcasts_S1x3072_S512x3072) =
      up2 fun r j => f r j + c j := by
  funext j; idx_vars j
  pointwise [up2]
  simp only [← EReal.coe_add]

/-- The first half's joint product with its bias, by these pieces. -/
theorem pay0_6 (v0 : Vec Ideal S512x768 .f32) (v2 v4 : Vec Ideal S1x768 .f32) (v27 : Vec Ideal S768x3072 .fp8e4m3)
    (v30 : Vec Ideal S1x3072 .f32) :
    k0_pay6 v0 v2 v4 v27 v30 = addf (acc0 (norm v0 v2 v4) v27) (broadcastTo S512x3072 v30 broadcasts_S1x3072_S512x3072) := by
  unfold k0_pay6
  simp only [shapeCast_self]
  rfl

/-- The second half's joint product, by these pieces. -/
theorem pay0_11 (v0 : Vec Ideal S512x768 .f32) (v2 v4 : Vec Ideal S1x768 .f32) (v27 : Vec Ideal S768x3072 .fp8e4m3) :
    k0_pay11 v0 v2 v4 v27 = acc0 (norm v0 v2 v4) v27 := by
  unfold k0_pay11
  simp only [shapeCast_self]
  rfl

/-- The second half's joint product with its bias. -/
theorem pay0_1 (v0 : Vec Ideal S512x768 .f32) (v2 v4 : Vec Ideal S1x768 .f32) (v27 : Vec Ideal S768x3072 .fp8e4m3)
    (v30 : Vec Ideal S1x3072 .f32) :
    k0_pay1 (k0_pay11 v0 v2 v4 v27) (k0_pay12 v30) = addf (acc0 (norm v0 v2 v4) v27) (broadcastTo S512x3072 v30 broadcasts_S1x3072_S512x3072) := by
  rw [pay0_11]
  unfold k0_pay1 k0_pay12
  simp only [shapeCast_self]

/-- The scale of the queries. -/
def qs : ℝ := (1 / 8) * (Real.log 2)⁻¹

/-- The named constant is the queries' scale. -/
theorem qs_eq : Named.named (F := Ideal) κ "qscale" (φ := .f32) 0x3E38AA3B#32 = ((qs : ℝ) : EReal) :=
  IdealRules.named_const.ideal_named_scalar _ _ _ _ rfl

/-- A half block's queries, keys and values from the joint product. -/
def qOf (a : FVec Ideal S512x3072 .f32) : FVec Ideal S512x768 .fp8e4m3 :=
  truncf .fp8e4m3 (mulf (extractStridedSlice S512x768 ![0, 0] a slices_S512x3072_o0_0_S512x768) (broadcast S512x768 (Named.named (F := Ideal) κ "qscale" (φ := .f32) 0x3E38AA3B#32))) bitsLt_fp8e4m3_f32
/-- The keys. -/
def kOf (a : FVec Ideal S512x3072 .f32) : FVec Ideal S512x768 .fp8e4m3 :=
  extractStridedSlice S512x768 ![0, 768] (truncf .fp8e4m3 a bitsLt_fp8e4m3_f32) slices_S512x3072_o0_768_S512x768
/-- The widened values. -/
def vOf (a : FVec Ideal S512x3072 .f32) : FVec Ideal S512x1536 .fp8e4m3 :=
  extractStridedSlice S512x1536 ![0, 1536] (truncf .fp8e4m3 a bitsLt_fp8e4m3_f32) slices_S512x3072_o0_1536_S512x1536

/-- The queries of a real joint product. -/
theorem qOf_up (f : Fin 512 → Fin 3072 → ℝ) : qOf (up2 f) = up2 fun r (k : Fin 768) => f r ⟨k.val, by omega⟩ * qs := by
  funext j; idx_vars j
  pointwise [qOf, up2]
  rw [qs_eq, ← EReal.coe_mul]

/-- The keys of a real joint product. -/
theorem kOf_up (f : Fin 512 → Fin 3072 → ℝ) : kOf (up2 f) = up2 fun r (k : Fin 768) => f r ⟨768 + k.val, by omega⟩ := by
  funext j; idx_vars j
  pointwise [kOf, up2]

/-- The widened values of a real joint product. -/
theorem vOf_up (f : Fin 512 → Fin 3072 → ℝ) : vOf (up2 f) = up2 fun r (k : Fin 1536) => f r ⟨1536 + k.val, by omega⟩ := by
  funext j; idx_vars j
  pointwise [vOf, up2]

end Cert.Block.Kern

end
-- ==== Proof.KOut0.lean ====
/- The first region's blocks on real rows: queries, keys and values of the joint projection. -/
module

public import proofs.«01_k».proof.Proof.KNorm
public import proofs.«01_k».proof.Proof.Gen.KernelIdeal.Frame

@[expose] public section

set_option maxRecDepth 16384

noncomputable section

namespace Cert.Block.Kern

open Idealize.ShloMosaic Cert.KernelIdeal Cert.KernelIdeal.Gen

/-- The joint projection of normalised rows. -/
def jp {n : Nat} (x : Fin n → Fin 768 → ℝ) (g b : Fin 768 → ℝ) (w : Fin 768 → Fin 3072 → ℝ) (c : Fin 3072 → ℝ) :
    Fin n → Fin 3072 → ℝ := fun r j => (∑ k, ln (x r) g b k * w k j) + c j

/-- The zero offsets of a whole load. -/
theorem hz2 : (![0, 0] : Fin 2 → Nat) = fun _ => 0 := by
  funext a; fin_cases a <;> rfl

/-- The joint product of a half block, from its sources. -/
theorem joint_up (x : Fin 512 → Fin 768 → ℝ) (g b : Fin 768 → ℝ) (w : Fin 768 → Fin 3072 → ℝ) (c : Fin 3072 → ℝ) :
    addf (acc0 (norm (up2 x) (up2 (n := 1) fun _ => g) (up2 (n := 1) fun _ => b)) (up2 w))
      (broadcastTo S512x3072 (up2 (n := 1) fun _ => c) broadcasts_S1x3072_S512x3072) = up2 (jp x g b w c) := by
  rw [norm_up, acc0_up]
  exact row_up _ _

/-- The upper half of a block. -/
theorem top_up (x : Fin 1024 → Fin 768 → ℝ) :
    View.ld (Val := Elt Ideal) (e' := .f32) (up2 x) r0_0 = up2 fun (r : Fin 512) k => x ⟨r.val, by omega⟩ k := by
  funext j; idx_vars j
  pointwise [up2]

/-- The lower half of a block. -/
theorem bot_up (x : Fin 1024 → Fin 768 → ℝ) :
    View.ld (Val := Elt Ideal) (e' := .f32) (up2 x) r0_5 = up2 fun (r : Fin 512) k => x ⟨512 + r.val, by omega⟩ k := by
  funext j; idx_vars j
  pointwise [up2]

/-- The indices of a half block in its block, at `r0_0`. -/
theorem emb0_0 (G : Fin 1024 → Fin 768 → ℝ) (i : S512x768.Idx) :
    up2 G (r0_0.emb i) = up2 (fun (r : Fin 512) k => G ⟨r.val, by omega⟩ k) i := by
  revert i; intro (i : (S512x768).Idx)
  have h0 : r0_0.emb i 0 = (⟨(i 0).val, by have := (i 0).isLt; change _ < 512 at this; omega⟩ : Fin 1024) :=
    Fin.ext (by show 0 + 1 * (i 0).val = _; simp only [Nat.one_mul, Nat.zero_add])
  have h1 : r0_0.emb i 1 = (i 1 : Fin 768) :=
    Fin.ext (by show 0 + 1 * (i 1).val = _; simp only [Nat.one_mul, Nat.zero_add])
  show ((G (r0_0.emb i 0) (r0_0.emb i 1) : ℝ) : EReal) = _
  rw [h0, h1]
  rfl

/-- The indices of a half block in its block, at `r0_5`. -/
theorem emb0_5 (G : Fin 1024 → Fin 768 → ℝ) (i : S512x768.Idx) :
    up2 G (r0_5.emb i) = up2 (fun (r : Fin 512) k => G ⟨512 + r.val, by omega⟩ k) i := by
  revert i; intro (i : (S512x768).Idx)
  have h0 : r0_5.emb i 0 = (⟨512 + (i 0).val, by have := (i 0).isLt; change _ < 512 at this; omega⟩ : Fin 1024) :=
    Fin.ext (by show 512 + 1 * (i 0).val = _; simp only [Nat.one_mul, Nat.zero_add])
  have h1 : r0_5.emb i 1 = (i 1 : Fin 768) :=
    Fin.ext (by show 0 + 1 * (i 1).val = _; simp only [Nat.one_mul, Nat.zero_add])
  show ((G (r0_5.emb i 0) (r0_5.emb i 1) : ℝ) : EReal) = _
  rw [h0, h1]
  rfl

/-- The indices of a half block in its block, at `r0_4`. -/
theorem emb0_4 (G : Fin 1024 → Fin 1536 → ℝ) (i : S512x1536.Idx) :
    up2 G (r0_4.emb i) = up2 (fun (r : Fin 512) k => G ⟨r.val, by omega⟩ k) i := by
  revert i; intro (i : (S512x1536).Idx)
  have h0 : r0_4.emb i 0 = (⟨(i 0).val, by have := (i 0).isLt; change _ < 512 at this; omega⟩ : Fin 1024) :=
    Fin.ext (by show 0 + 1 * (i 0).val = _; simp only [Nat.one_mul, Nat.zero_add])
  have h1 : r0_4.emb i 1 = (i 1 : Fin 1536) :=
    Fin.ext (by show 0 + 1 * (i 1).val = _; simp only [Nat.one_mul, Nat.zero_add])
  show ((G (r0_4.emb i 0) (r0_4.emb i 1) : ℝ) : EReal) = _
  rw [h0, h1]
  rfl

/-- The indices of a half block in its block, at `r0_6`. -/
theorem emb0_6 (G : Fin 1024 → Fin 1536 → ℝ) (i : S512x1536.Idx) :
    up2 G (r0_6.emb i) = up2 (fun (r : Fin 512) k => G ⟨512 + r.val, by omega⟩ k) i := by
  revert i; intro (i : (S512x1536).Idx)
  have h0 : r0_6.emb i 0 = (⟨512 + (i 0).val, by have := (i 0).isLt; change _ < 512 at this; omega⟩ : Fin 1024) :=
    Fin.ext (by show 512 + 1 * (i 0).val = _; simp only [Nat.one_mul, Nat.zero_add])
  have h1 : r0_6.emb i 1 = (i 1 : Fin 1536) :=
    Fin.ext (by show 0 + 1 * (i 1).val = _; simp only [Nat.one_mul, Nat.zero_add])
  show ((G (r0_6.emb i 0) (r0_6.emb i 1) : ℝ) : EReal) = _
  rw [h0, h1]
  rfl

/-- A whole row loaded. -/
theorem ld0_1 (X : Vec Ideal S1x768 .f32) : View.ld X r0_1 = X := View.ld_unit_zero (S := S1x768) hz2 _ X
/-- The whole weight loaded. -/
theorem ld0_2 (X : Vec Ideal S768x3072 .fp8e4m3) : View.ld X r0_2 = X := View.ld_unit_zero (S := S768x3072) hz2 _ X
/-- The whole bias loaded. -/
theorem ld0_3 (X : Vec Ideal S1x3072 .f32) : View.ld X r0_3 = X := View.ld_unit_zero (S := S1x3072) hz2 _ X

section

variable (x : Fin 1024 → Fin 768 → ℝ) (g b : Fin 768 → ℝ) (w : Fin 768 → Fin 3072 → ℝ) (c : Fin 3072 → ℝ)

/-- The first half's joint product is real. -/
theorem pay6_up (x : Fin 512 → Fin 768 → ℝ) :
    k0_pay6 (F := Ideal) (up2 x) (up2 (n := 1) fun _ => g) (up2 (n := 1) fun _ => b) (up2 w) (up2 (n := 1) fun _ => c) = up2 (jp x g b w c) := by
  rw [pay0_6]; exact joint_up x g b w c

/-- So is the second half's. -/
theorem pay1_up (x : Fin 512 → Fin 768 → ℝ) :
    k0_pay1 (k0_pay11 (F := Ideal) (up2 x) (up2 (n := 1) fun _ => g) (up2 (n := 1) fun _ => b) (up2 w)) (k0_pay12 (up2 (n := 1) fun _ => c)) = up2 (jp x g b w c) := by
  rw [pay0_1]; exact joint_up x g b w c

/-- A block's queries. -/
theorem out5_up :
    out0_5 (F := Ideal) (up2 x) (up2 (n := 1) fun _ => g) (up2 (n := 1) fun _ => b) (up2 w) (up2 (n := 1) fun _ => c) =
      up2 fun r (k : Fin 768) => jp x g b w c r ⟨k.val, by omega⟩ * qs := by
  funext y
  unfold out0_5 k0_pay14 k0_pay15
  refine View.canon_apply_of_pieces _ _ ?_ y (cover0_5 _ _ y)
  have h1 : ∀ s : Fin 512 → Fin 768 → ℝ, k0_pay3 (k0_pay11 (F := Ideal) (up2 s) (up2 (n := 1) fun _ => g) (up2 (n := 1) fun _ => b) (up2 w)) (k0_pay12 (up2 (n := 1) fun _ => c)) = qOf (up2 (jp s g b w c)) := by
    intro s; rw [← pay1_up]; rfl
  have h2 : ∀ s : Fin 512 → Fin 768 → ℝ, k0_pay8 (F := Ideal) (up2 s) (up2 (n := 1) fun _ => g) (up2 (n := 1) fun _ => b) (up2 w) (up2 (n := 1) fun _ => c) = qOf (up2 (jp s g b w c)) := by
    intro s; rw [← pay6_up]; rfl
  rw [bot_up, top_up]
  erw [ld0_1, ld0_1, ld0_2, ld0_3]
  rw [h1, h2, qOf_up, qOf_up]
  intro p hp i
  simp only [List.mem_cons, List.not_mem_nil, or_false] at hp
  rcases hp with rfl | rfl
  · exact (emb0_5 (fun r k => jp x g b w c r ⟨k.val, by omega⟩ * qs) i).symm
  · exact (emb0_0 (fun r k => jp x g b w c r ⟨k.val, by omega⟩ * qs) i).symm

/-- A block's keys. -/
theorem out6_up :
    out0_6 (F := Ideal) (up2 x) (up2 (n := 1) fun _ => g) (up2 (n := 1) fun _ => b) (up2 w) (up2 (n := 1) fun _ => c) =
      up2 fun r (k : Fin 768) => jp x g b w c r ⟨768 + k.val, by omega⟩ := by
  funext y
  unfold out0_6 k0_pay13 k0_pay14 k0_pay15
  refine View.canon_apply_of_pieces _ _ ?_ y (cover0_6 _ _ y)
  have h1 : ∀ s : Fin 512 → Fin 768 → ℝ, k0_pay4 (k0_pay11 (F := Ideal) (up2 s) (up2 (n := 1) fun _ => g) (up2 (n := 1) fun _ => b) (up2 w)) (k0_pay12 (up2 (n := 1) fun _ => c)) = kOf (up2 (jp s g b w c)) := by
    intro s; rw [← pay1_up]; rfl
  have h2 : ∀ s : Fin 512 → Fin 768 → ℝ, k0_pay9 (k0_pay7 (F := Ideal) (up2 s) (up2 (n := 1) fun _ => g) (up2 (n := 1) fun _ => b) (up2 w) (up2 (n := 1) fun _ => c)) = kOf (up2 (jp s g b w c)) := by
    intro s; rw [← pay6_up]; rfl
  rw [bot_up, top_up]
  erw [ld0_1, ld0_1, ld0_2, ld0_3]
  rw [h1, h2, kOf_up, kOf_up]
  intro p hp i
  simp only [List.mem_cons, List.not_mem_nil, or_false] at hp
  rcases hp with rfl | rfl
  · exact (emb0_5 (fun r k => jp x g b w c r ⟨768 + k.val, by omega⟩) i).symm
  · exact (emb0_0 (fun r k => jp x g b w c r ⟨768 + k.val, by omega⟩) i).symm

/-- A block's values, widened. -/
theorem out7_up :
    out0_7 (F := Ideal) (up2 x) (up2 (n := 1) fun _ => g) (up2 (n := 1) fun _ => b) (up2 w) (up2 (n := 1) fun _ => c) =
      up2 fun r (k : Fin 1536) => jp x g b w c r ⟨1536 + k.val, by omega⟩ := by
  funext y
  unfold out0_7 k0_pay13 k0_pay14 k0_pay15
  refine View.canon_apply_of_pieces _ _ ?_ y (cover0_7 _ _ y)
  have h1 : ∀ s : Fin 512 → Fin 768 → ℝ, k0_pay5 (k0_pay11 (F := Ideal) (up2 s) (up2 (n := 1) fun _ => g) (up2 (n := 1) fun _ => b) (up2 w)) (k0_pay12 (up2 (n := 1) fun _ => c)) = vOf (up2 (jp s g b w c)) := by
    intro s; rw [← pay1_up]; rfl
  have h2 : ∀ s : Fin 512 → Fin 768 → ℝ, k0_pay10 (k0_pay7 (F := Ideal) (up2 s) (up2 (n := 1) fun _ => g) (up2 (n := 1) fun _ => b) (up2 w) (up2 (n := 1) fun _ => c)) = vOf (up2 (jp s g b w c)) := by
    intro s; rw [← pay6_up]; rfl
  rw [bot_up, top_up]
  erw [ld0_1, ld0_1, ld0_2, ld0_3]
  rw [h1, h2, vOf_up, vOf_up]
  intro p hp i
  simp only [List.mem_cons, List.not_mem_nil, or_false] at hp
  rcases hp with rfl | rfl
  · exact (emb0_6 (fun r k => jp x g b w c r ⟨1536 + k.val, by omega⟩) i).symm
  · exact (emb0_4 (fun r k => jp x g b w c r ⟨1536 + k.val, by omega⟩) i).symm

end

end Cert.Block.Kern

end
-- ==== Proof.Reg0.lean ====
/- The first region's arrays: from real rows to real queries, keys and values. -/
module

public import proofs.«01_k».proof.Proof.KOut0

@[expose] public section

set_option maxRecDepth 16384

noncomputable section

namespace Cert.Block.Kern

open Idealize.ShloMosaic Idealize.ShloMosaic.TcCoe Cert.KernelIdeal Cert.KernelIdeal.Gen
open Idealize.ShloMosaic.Pipeline (Dat Cfg Window BodyObligation cellOf)

/-- A real array read at an index whose coordinates are known. -/
theorem up2_at {n m : Nat} (f : Fin n → Fin m → ℝ) (j : (⟨2, ![n, m]⟩ : Shape).Idx) (a : Fin n) (b : Fin m)
    (h0 : (j 0).val = a.val) (h1 : (j 1).val = b.val) : up2 f j = ((f a b : ℝ) : EReal) := by
  have e0 : j 0 = a := Fin.ext h0
  have e1 : j 1 = b := Fin.ext h1
  show ((f (j 0) (j 1) : ℝ) : EReal) = _
  rw [e0, e1]

variable (V : (c : Dev nD) → (b : Ref sig .tc) → Buf (Elt Ideal) ((c : Thread nD τ).loc b)) (c : Dev nD)

/-- The number of points. -/
theorem N0 : cfg0.N = 2 := by decide +kernel
/-- A point is one of two. -/
theorem lt0 (t : Fin cfg0.N) : t.val < 2 := lt_of_lt_of_eq t.isLt N0

/-- The block index of window 0 at each point. -/
theorem ix0_0 : ∀ t : Fin grid0.N, win0_0.index t 0 = t.val ∧ win0_0.index t 1 = 0 := by decide +kernel
/-- What window 0 reads at a point. -/
theorem blk0_0 (t : Fin cfg0.N) (f : Fin 2048 → Fin 768 → ℝ) (h : V c main_v0 = up2 f) :
    iblk0 V c 0 t = up2 fun (r : Fin 1024) (k : Fin 768) => f ⟨(t.val) * 1024 + r.val, by have := lt0 t; omega⟩ k := by
  funext i
  show V c main_v0 ((win0_0.rect t).emb i) = _
  rw [h]
  refine up2_at _ _ _ _ ?_ ?_
  · show win0_0.index t 0 * 1024 + 1 * (i 0).val = (t.val) * 1024 + (i 0).val
    rw [(ix0_0 t).1]; omega
  · show win0_0.index t 1 * 768 + 1 * (i 1).val = (i 1).val
    rw [(ix0_0 t).2]; omega

/-- The block index of window 1 at each point. -/
theorem ix0_1 : ∀ t : Fin grid0.N, win0_1.index t 0 = 0 ∧ win0_1.index t 1 = 0 := by decide +kernel
/-- What window 1 reads at a point. -/
theorem blk0_1 (t : Fin cfg0.N) (f : Fin 768 → ℝ) (h : V c main_v22 = up2 (n := 1) fun _ => f) :
    iblk0 V c 1 t = up2 (n := 1) fun _ => f := by
  funext i
  show V c main_v22 ((win0_1.rect t).emb i) = _
  rw [h]
  refine up2_at _ _ (i 0) (i 1) ?_ ?_
  · show win0_1.index t 0 * 1 + 1 * (i 0).val = (i 0).val
    rw [(ix0_1 t).1]; omega
  · show win0_1.index t 1 * 768 + 1 * (i 1).val = (i 1).val
    rw [(ix0_1 t).2]; omega

/-- The block index of window 2 at each point. -/
theorem ix0_2 : ∀ t : Fin grid0.N, win0_2.index t 0 = 0 ∧ win0_2.index t 1 = 0 := by decide +kernel
/-- What window 2 reads at a point. -/
theorem blk0_2 (t : Fin cfg0.N) (f : Fin 768 → ℝ) (h : V c main_v23 = up2 (n := 1) fun _ => f) :
    iblk0 V c 2 t = up2 (n := 1) fun _ => f := by
  funext i
  show V c main_v23 ((win0_2.rect t).emb i) = _
  rw [h]
  refine up2_at _ _ (i 0) (i 1) ?_ ?_
  · show win0_2.index t 0 * 1 + 1 * (i 0).val = (i 0).val
    rw [(ix0_2 t).1]; omega
  · show win0_2.index t 1 * 768 + 1 * (i 1).val = (i 1).val
    rw [(ix0_2 t).2]; omega

/-- The block index of window 3 at each point. -/
theorem ix0_3 : ∀ t : Fin grid0.N, win0_3.index t 0 = 0 ∧ win0_3.index t 1 = 0 := by decide +kernel
/-- What window 3 reads at a point. -/
theorem blk0_3 (t : Fin cfg0.N) (f : Fin 768 → Fin 3072 → ℝ) (h : V c main_v11 = up2 f) :
    iblk0 V c 3 t = up2 fun (r : Fin 768) (k : Fin 3072) => f r k := by
  funext i
  show V c main_v11 ((win0_3.rect t).emb i) = _
  rw [h]
  refine up2_at _ _ _ _ ?_ ?_
  · show win0_3.index t 0 * 768 + 1 * (i 0).val = (i 0).val
    rw [(ix0_3 t).1]; omega
  · show win0_3.index t 1 * 3072 + 1 * (i 1).val = (i 1).val
    rw [(ix0_3 t).2]; omega

/-- The block index of window 4 at each point. -/
theorem ix0_4 : ∀ t : Fin grid0.N, win0_4.index t 0 = 0 ∧ win0_4.index t 1 = 0 := by decide +kernel
/-- What window 4 reads at a point. -/
theorem blk0_4 (t : Fin cfg0.N) (f : Fin 3072 → ℝ) (h : V c main_v24 = up2 (n := 1) fun _ => f) :
    iblk0 V c 4 t = up2 (n := 1) fun _ => f := by
  funext i
  show V c main_v24 ((win0_4.rect t).emb i) = _
  rw [h]
  refine up2_at _ _ (i 0) (i 1) ?_ ?_
  · show win0_4.index t 0 * 1 + 1 * (i 0).val = (i 0).val
    rw [(ix0_4 t).1]; omega
  · show win0_4.index t 1 * 3072 + 1 * (i 1).val = (i 1).val
    rw [(ix0_4 t).2]; omega

/-- The block index of window 5 at each point. -/
theorem ix0_5 : ∀ t : Fin grid0.N, win0_5.index t 0 = t.val ∧ win0_5.index t 1 = 0 := by decide +kernel
/-- The queries, a point's part. -/
theorem flushed0_5 (x : Fin 2048 → Fin 768 → ℝ) (g b : Fin 768 → ℝ) (w : Fin 768 → Fin 3072 → ℝ) (bi : Fin 3072 → ℝ) (e0 : V c main_v0 = up2 x) (e1 : V c main_v22 = up2 (n := 1) fun _ => g) (e2 : V c main_v23 = up2 (n := 1) fun _ => b)
    (e3 : V c main_v11 = up2 w) (e4 : V c main_v24 = up2 (n := 1) fun _ => bi) (t : Fin cfg0.N) :
    (dat0 V c).flushed 5 t = (win0_5.blk t).view.read (Elt Ideal) (up2 (fun n (k : Fin 768) => jp x g b w bi n ⟨k.val, by omega⟩ * qs) : S2048x768.Idx → EReal) := by
  show (cfg0.win 5).cut (grid0.coords t) ((dat0 V c).after 5 t) = _
  rw [after0_5, blk0_0 V c t x e0, blk0_1 V c t g e1, blk0_2 V c t b e2, blk0_3 V c t w e3, blk0_4 V c t bi e4, out5_up]
  funext i
  show up2 _ i = up2 (fun n (k : Fin 768) => jp x g b w bi n ⟨k.val, by omega⟩ * qs) ((win0_5.rect t).emb i)
  have h0 := lt0 t
  have h1 : (i 0).val < 1024 := (i 0).isLt
  have h2 : (i 1).val < 768 := (i 1).isLt
  rw [up2_at (fun n (k : Fin 768) => jp x g b w bi n ⟨k.val, by omega⟩ * qs) ((win0_5.rect t).emb i) ⟨(t.val) * 1024 + (i 0).val, by omega⟩ ⟨(i 1).val, by omega⟩
    (by show win0_5.index t 0 * 1024 + 1 * (i 0).val = _; rw [(ix0_5 t).1]; simp only [Nat.one_mul, Nat.zero_mul, Nat.zero_add])
    (by show win0_5.index t 1 * 768 + 1 * (i 1).val = _; rw [(ix0_5 t).2]; simp only [Nat.one_mul, Nat.zero_mul, Nat.zero_add])]
  rfl

/-- An index of the array is in a point's block when its coordinates are. -/
theorem mem0_5 (t : Fin cfg0.N) (i : S2048x768.Idx)
    (h0 : t.val * 1024 ≤ (i 0 : Nat) ∧ (i 0 : Nat) < t.val * 1024 + 1024) (h1 : 0 * 768 ≤ (i 1 : Nat) ∧ (i 1 : Nat) < 0 * 768 + 768) :
    i ∈ ((cfg0.win 5).blk t).view.set := by
  show i ∈ ((View.whole main_v25_0).slice (win0_5.rect t)).set
  rw [View.set_slice_whole, Rect.mem_set_unit]
  intro a
  match a with
  | ⟨0, _⟩ => show win0_5.index t 0 * 1024 ≤ (i 0 : Nat) ∧ (i 0 : Nat) < win0_5.index t 0 * 1024 + 1024
              rw [(ix0_5 t).1]; exact h0
  | ⟨1, _⟩ => show win0_5.index t 1 * 768 ≤ (i 1 : Nat) ∧ (i 1 : Nat) < win0_5.index t 1 * 768 + 768
              rw [(ix0_5 t).2]; exact h1

/-- The points' blocks cover the array. -/
theorem cov0_5 (i : S2048x768.Idx) : ∃ t : Fin cfg0.N, (cfg0.win 5).flush t = true ∧ i ∈ ((cfg0.win 5).blk t).view.set := by
  have h0 : (i 0 : Nat) < 2048 := (i 0).isLt
  have h1 : (i 1 : Nat) < 768 := (i 1).isLt
  have hN := N0
  refine ⟨⟨(i 0 : Nat) / 1024, by omega⟩, flush0_5 _, mem0_5 _ i ?_ ?_⟩
  · dsimp only; omega
  · dsimp only; omega

/-- The queries. -/
theorem arr_q (x : Fin 2048 → Fin 768 → ℝ) (g b : Fin 768 → ℝ) (w : Fin 768 → Fin 3072 → ℝ) (bi : Fin 3072 → ℝ) (e0 : V c main_v0 = up2 x) (e1 : V c main_v22 = up2 (n := 1) fun _ => g) (e2 : V c main_v23 = up2 (n := 1) fun _ => b)
    (e3 : V c main_v11 = up2 w) (e4 : V c main_v24 = up2 (n := 1) fun _ => bi) :
    (dat0 V c).arrAt 5 cfg0.N = (up2 (fun n (k : Fin 768) => jp x g b w bi n ⟨k.val, by omega⟩ * qs) : S2048x768.Idx → EReal) :=
  (dat0 V c).arrAt_eq_of_cover 5 _ (fun t _ => flushed0_5 V c x g b w bi e0 e1 e2 e3 e4 t) cov0_5

/-- The block index of window 6 at each point. -/
theorem ix0_6 : ∀ t : Fin grid0.N, win0_6.index t 0 = t.val ∧ win0_6.index t 1 = 0 := by decide +kernel
/-- The keys, a point's part. -/
theorem flushed0_6 (x : Fin 2048 → Fin 768 → ℝ) (g b : Fin 768 → ℝ) (w : Fin 768 → Fin 3072 → ℝ) (bi : Fin 3072 → ℝ) (e0 : V c main_v0 = up2 x) (e1 : V c main_v22 = up2 (n := 1) fun _ => g) (e2 : V c main_v23 = up2 (n := 1) fun _ => b)
    (e3 : V c main_v11 = up2 w) (e4 : V c main_v24 = up2 (n := 1) fun _ => bi) (t : Fin cfg0.N) :
    (dat0 V c).flushed 6 t = (win0_6.blk t).view.read (Elt Ideal) (up2 (fun n (k : Fin 768) => jp x g b w bi n ⟨768 + k.val, by omega⟩) : S2048x768.Idx → EReal) := by
  show (cfg0.win 6).cut (grid0.coords t) ((dat0 V c).after 6 t) = _
  rw [after0_6, blk0_0 V c t x e0, blk0_1 V c t g e1, blk0_2 V c t b e2, blk0_3 V c t w e3, blk0_4 V c t bi e4, out6_up]
  funext i
  show up2 _ i = up2 (fun n (k : Fin 768) => jp x g b w bi n ⟨768 + k.val, by omega⟩) ((win0_6.rect t).emb i)
  have h0 := lt0 t
  have h1 : (i 0).val < 1024 := (i 0).isLt
  have h2 : (i 1).val < 768 := (i 1).isLt
  rw [up2_at (fun n (k : Fin 768) => jp x g b w bi n ⟨768 + k.val, by omega⟩) ((win0_6.rect t).emb i) ⟨(t.val) * 1024 + (i 0).val, by omega⟩ ⟨(i 1).val, by omega⟩
    (by show win0_6.index t 0 * 1024 + 1 * (i 0).val = _; rw [(ix0_6 t).1]; simp only [Nat.one_mul, Nat.zero_mul, Nat.zero_add])
    (by show win0_6.index t 1 * 768 + 1 * (i 1).val = _; rw [(ix0_6 t).2]; simp only [Nat.one_mul, Nat.zero_mul, Nat.zero_add])]
  rfl

/-- An index of the array is in a point's block when its coordinates are. -/
theorem mem0_6 (t : Fin cfg0.N) (i : S2048x768.Idx)
    (h0 : t.val * 1024 ≤ (i 0 : Nat) ∧ (i 0 : Nat) < t.val * 1024 + 1024) (h1 : 0 * 768 ≤ (i 1 : Nat) ∧ (i 1 : Nat) < 0 * 768 + 768) :
    i ∈ ((cfg0.win 6).blk t).view.set := by
  show i ∈ ((View.whole main_v25_1).slice (win0_6.rect t)).set
  rw [View.set_slice_whole, Rect.mem_set_unit]
  intro a
  match a with
  | ⟨0, _⟩ => show win0_6.index t 0 * 1024 ≤ (i 0 : Nat) ∧ (i 0 : Nat) < win0_6.index t 0 * 1024 + 1024
              rw [(ix0_6 t).1]; exact h0
  | ⟨1, _⟩ => show win0_6.index t 1 * 768 ≤ (i 1 : Nat) ∧ (i 1 : Nat) < win0_6.index t 1 * 768 + 768
              rw [(ix0_6 t).2]; exact h1

/-- The points' blocks cover the array. -/
theorem cov0_6 (i : S2048x768.Idx) : ∃ t : Fin cfg0.N, (cfg0.win 6).flush t = true ∧ i ∈ ((cfg0.win 6).blk t).view.set := by
  have h0 : (i 0 : Nat) < 2048 := (i 0).isLt
  have h1 : (i 1 : Nat) < 768 := (i 1).isLt
  have hN := N0
  refine ⟨⟨(i 0 : Nat) / 1024, by omega⟩, flush0_6 _, mem0_6 _ i ?_ ?_⟩
  · dsimp only; omega
  · dsimp only; omega

/-- The keys. -/
theorem arr_k (x : Fin 2048 → Fin 768 → ℝ) (g b : Fin 768 → ℝ) (w : Fin 768 → Fin 3072 → ℝ) (bi : Fin 3072 → ℝ) (e0 : V c main_v0 = up2 x) (e1 : V c main_v22 = up2 (n := 1) fun _ => g) (e2 : V c main_v23 = up2 (n := 1) fun _ => b)
    (e3 : V c main_v11 = up2 w) (e4 : V c main_v24 = up2 (n := 1) fun _ => bi) :
    (dat0 V c).arrAt 6 cfg0.N = (up2 (fun n (k : Fin 768) => jp x g b w bi n ⟨768 + k.val, by omega⟩) : S2048x768.Idx → EReal) :=
  (dat0 V c).arrAt_eq_of_cover 6 _ (fun t _ => flushed0_6 V c x g b w bi e0 e1 e2 e3 e4 t) cov0_6

/-- The block index of window 7 at each point. -/
theorem ix0_7 : ∀ t : Fin grid0.N, win0_7.index t 0 = t.val ∧ win0_7.index t 1 = 0 := by decide +kernel
/-- The widened values, a point's part. -/
theorem flushed0_7 (x : Fin 2048 → Fin 768 → ℝ) (g b : Fin 768 → ℝ) (w : Fin 768 → Fin 3072 → ℝ) (bi : Fin 3072 → ℝ) (e0 : V c main_v0 = up2 x) (e1 : V c main_v22 = up2 (n := 1) fun _ => g) (e2 : V c main_v23 = up2 (n := 1) fun _ => b)
    (e3 : V c main_v11 = up2 w) (e4 : V c main_v24 = up2 (n := 1) fun _ => bi) (t : Fin cfg0.N) :
    (dat0 V c).flushed 7 t = (win0_7.blk t).view.read (Elt Ideal) (up2 (fun n (k : Fin 1536) => jp x g b w bi n ⟨1536 + k.val, by omega⟩) : S2048x1536.Idx → EReal) := by
  show (cfg0.win 7).cut (grid0.coords t) ((dat0 V c).after 7 t) = _
  rw [after0_7, blk0_0 V c t x e0, blk0_1 V c t g e1, blk0_2 V c t b e2, blk0_3 V c t w e3, blk0_4 V c t bi e4, out7_up]
  funext i
  show up2 _ i = up2 (fun n (k : Fin 1536) => jp x g b w bi n ⟨1536 + k.val, by omega⟩) ((win0_7.rect t).emb i)
  have h0 := lt0 t
  have h1 : (i 0).val < 1024 := (i 0).isLt
  have h2 : (i 1).val < 1536 := (i 1).isLt
  rw [up2_at (fun n (k : Fin 1536) => jp x g b w bi n ⟨1536 + k.val, by omega⟩) ((win0_7.rect t).emb i) ⟨(t.val) * 1024 + (i 0).val, by omega⟩ ⟨(i 1).val, by omega⟩
    (by show win0_7.index t 0 * 1024 + 1 * (i 0).val = _; rw [(ix0_7 t).1]; simp only [Nat.one_mul, Nat.zero_mul, Nat.zero_add])
    (by show win0_7.index t 1 * 1536 + 1 * (i 1).val = _; rw [(ix0_7 t).2]; simp only [Nat.one_mul, Nat.zero_mul, Nat.zero_add])]
  rfl

/-- An index of the array is in a point's block when its coordinates are. -/
theorem mem0_7 (t : Fin cfg0.N) (i : S2048x1536.Idx)
    (h0 : t.val * 1024 ≤ (i 0 : Nat) ∧ (i 0 : Nat) < t.val * 1024 + 1024) (h1 : 0 * 1536 ≤ (i 1 : Nat) ∧ (i 1 : Nat) < 0 * 1536 + 1536) :
    i ∈ ((cfg0.win 7).blk t).view.set := by
  show i ∈ ((View.whole main_v25_2).slice (win0_7.rect t)).set
  rw [View.set_slice_whole, Rect.mem_set_unit]
  intro a
  match a with
  | ⟨0, _⟩ => show win0_7.index t 0 * 1024 ≤ (i 0 : Nat) ∧ (i 0 : Nat) < win0_7.index t 0 * 1024 + 1024
              rw [(ix0_7 t).1]; exact h0
  | ⟨1, _⟩ => show win0_7.index t 1 * 1536 ≤ (i 1 : Nat) ∧ (i 1 : Nat) < win0_7.index t 1 * 1536 + 1536
              rw [(ix0_7 t).2]; exact h1

/-- The points' blocks cover the array. -/
theorem cov0_7 (i : S2048x1536.Idx) : ∃ t : Fin cfg0.N, (cfg0.win 7).flush t = true ∧ i ∈ ((cfg0.win 7).blk t).view.set := by
  have h0 : (i 0 : Nat) < 2048 := (i 0).isLt
  have h1 : (i 1 : Nat) < 1536 := (i 1).isLt
  have hN := N0
  refine ⟨⟨(i 0 : Nat) / 1024, by omega⟩, flush0_7 _, mem0_7 _ i ?_ ?_⟩
  · dsimp only; omega
  · dsimp only; omega

/-- The widened values. -/
theorem arr_v (x : Fin 2048 → Fin 768 → ℝ) (g b : Fin 768 → ℝ) (w : Fin 768 → Fin 3072 → ℝ) (bi : Fin 3072 → ℝ) (e0 : V c main_v0 = up2 x) (e1 : V c main_v22 = up2 (n := 1) fun _ => g) (e2 : V c main_v23 = up2 (n := 1) fun _ => b)
    (e3 : V c main_v11 = up2 w) (e4 : V c main_v24 = up2 (n := 1) fun _ => bi) :
    (dat0 V c).arrAt 7 cfg0.N = (up2 (fun n (k : Fin 1536) => jp x g b w bi n ⟨1536 + k.val, by omega⟩) : S2048x1536.Idx → EReal) :=
  (dat0 V c).arrAt_eq_of_cover 7 _ (fun t _ => flushed0_7 V c x g b w bi e0 e1 e2 e3 e4 t) cov0_7

end Cert.Block.Kern

end
-- ==== Proof.KOut2.lean ====
/- The third region's block on real rows: projection, layer norm, feed-forward and the two scaled residuals. -/
module

public import proofs.«01_k».proof.Proof.KOut0

@[expose] public section

set_option maxRecDepth 16384

noncomputable section

namespace Cert.Block.Kern

open Idealize.ShloMosaic Cert.KernelIdeal Cert.KernelIdeal.Gen

/-- A residual row plus a product scaled by a row over a power of two, plus a scaled bias. -/
def tail (x p : FVec Ideal S512x768 .f32) (s b : FVec Ideal S1x768 .f32) (u : Ideal .f32) : FVec Ideal S512x768 .f32 :=
  addf x (addf (mulf p (broadcastTo S512x768 (mulf s (broadcast S1x768 u)) broadcasts_S1x768_S512x768)) (broadcastTo S512x768 b broadcasts_S1x768_S512x768))

/-- The attention's projection. -/
def proj (o : FVec Ideal S512x768 .fp8e4m3) (w : FVec Ideal S768x768 .fp8e4m3) : FVec Ideal S512x768 .f32 :=
  matmul dot_S512x768_S768x768_S512x768_1_0_0_1_n_n none o w (constant S512x768 .f32 0x00000000#32)

/-- The hidden layer's activation, scaled by eight, of a hidden layer scaled by 32. -/
def gel (u : FVec Ideal S512x3072 .f32) : FVec Ideal S512x3072 .fp8e4m3 :=
  truncf .fp8e4m3 (mulf (mulf (broadcast S512x3072 (Scalar.ofBits .bf16 0x3E00#16)) (truncf .bf16 u bitsLt_bf16_f32))
    (addf (broadcast S512x3072 (Scalar.ofBits .bf16 0x3F80#16)) (erf (mulf (truncf .bf16 u bitsLt_bf16_f32) (broadcast S512x3072 (Named.named (F := Ideal) κ "erfscale" (φ := .bf16) 0x3CB5#16)))))) bitsLt_fp8e4m3_bf16

/-- The second product of the feed-forward part. -/
def back (a : FVec Ideal S512x3072 .fp8e4m3) (w : FVec Ideal S3072x768 .fp8e4m3) : FVec Ideal S512x768 .f32 :=
  matmul dot_S512x3072_S3072x768_S512x768_1_0_0_1_n_n none a w (constant S512x768 .f32 0x00000000#32)

/-- The scale inside the error function. -/
def es : ℝ := (1 / 32) * (Real.sqrt 2)⁻¹

/-- The named constant is the scale of the error function's argument. -/
theorem es_eq : Named.named (F := Ideal) κ "erfscale" (φ := .bf16) 0x3CB5#16 = ((es : ℝ) : EReal) :=
  IdealRules.named_const.ideal_named_scalar _ _ _ _ rfl

/-- The scaled residual on reals. -/
theorem tail_up (x p : Fin 512 → Fin 768 → ℝ) (s b : Fin 768 → ℝ) (u : Ideal .f32) (u' : ℝ) (h : u = (u' : EReal)) :
    tail (up2 x) (up2 p) (up2 (n := 1) fun _ => s) (up2 (n := 1) fun _ => b) u = up2 fun r k => x r k + (p r k * (s k * u') + b k) := by
  subst h
  funext j; idx_vars j
  pointwise [tail, up2]
  simp only [← EReal.coe_mul, ← EReal.coe_add]

/-- The attention's projection of real rows. -/
theorem proj_up (o : Fin 512 → Fin 768 → ℝ) (w : Fin 768 → Fin 768 → ℝ) :
    proj (up2 o) (up2 w) = up2 fun r k => ∑ i, o r i * w i k := by
  funext j; idx_vars j
  pointwise [proj, up2]
  simp only [← EReal.coe_mul, coe_sum]

/-- The second layer's product of real rows. -/
theorem back_up (a : Fin 512 → Fin 3072 → ℝ) (w : Fin 3072 → Fin 768 → ℝ) :
    back (up2 a) (up2 w) = up2 fun r k => ∑ i, a r i * w i k := by
  funext j; idx_vars j
  pointwise [back, up2]
  simp only [← EReal.coe_mul, coe_sum]

/-- The activation on reals. -/
theorem gel_up (u : Fin 512 → Fin 3072 → ℝ) :
    gel (up2 u) = up2 fun r j => (1 / 8 * u r j) * (1 + erfR (u r j * es)) := by
  funext j; idx_vars j
  pointwise [gel, up2]
  rw [es_eq, ← EReal.coe_mul, word_bf_eighth, ← EReal.coe_mul]
  show _ * (((1 : ℝ) : EReal) + ((erfR (u j0 j1 * es) : ℝ) : EReal)) = _
  rw [← EReal.coe_add, ← EReal.coe_mul]

/-- The first half's residual rows, by these pieces. -/
theorem pay2_2 (o : Vec Ideal S512x768 .fp8e4m3) (w : Vec Ideal S768x768 .fp8e4m3) (x : Vec Ideal S512x768 .f32) (s b : Vec Ideal S1x768 .f32) :
    k2_pay2 o w x s b = tail x (proj o w) s b (Scalar.ofBits .f32 0x3B000000#32) := by
  unfold k2_pay2
  simp only [shapeCast_self]
  rfl

/-- The first half's rows over their standard deviation. -/
theorem pay2_5 (o : Vec Ideal S512x768 .fp8e4m3) (w : Vec Ideal S768x768 .fp8e4m3) (x : Vec Ideal S512x768 .f32) (s b : Vec Ideal S1x768 .f32) :
    k2_pay5 o w x s b = unit (cen (k2_pay2 o w x s b)) := rfl

/-- A half block's output from its residual row and its normalised row. -/
def ffn (x1 nx : FVec Ideal S512x768 .f32) (w1 : FVec Ideal S768x3072 .fp8e4m3) (c1 : FVec Ideal S1x3072 .f32)
    (w2 : FVec Ideal S3072x768 .fp8e4m3) (s b : FVec Ideal S1x768 .f32) : FVec Ideal S512x768 .f32 :=
  tail x1 (back (gel (addf (acc0 nx w1) (broadcastTo S512x3072 c1 broadcasts_S1x3072_S512x3072))) w2) s b (Scalar.ofBits .f32 0x3B800000#32)

/-- The first half's output. -/
theorem pay2_6 (x1 : FVec Ideal S512x768 .f32) (g b : Vec Ideal S1x768 .f32) (w1 : Vec Ideal S768x3072 .fp8e4m3) (c1 : Vec Ideal S1x3072 .f32)
    (w2 : Vec Ideal S3072x768 .fp8e4m3) (s b2 : Vec Ideal S1x768 .f32) :
    k2_pay6 x1 (k2_pay3 g) (k2_pay4 b) (unit (cen x1)) w1 c1 w2 s b2 = ffn x1 (norm x1 g b) w1 c1 w2 s b2 := by
  unfold k2_pay6 k2_pay3 k2_pay4
  simp only [shapeCast_self]
  rfl

/-- The second half's residual rows. -/
theorem pay2_8 (o : Vec Ideal S512x768 .fp8e4m3) (w : Vec Ideal S768x768 .fp8e4m3) (x : Vec Ideal S512x768 .f32) (s b : Vec Ideal S1x768 .f32) :
    k2_pay8 (k2_pay7 o) w x s b = tail x (proj o w) s b (Scalar.ofBits .f32 0x3B000000#32) := by
  unfold k2_pay8 k2_pay7
  simp only [shapeCast_self]
  rfl

/-- The second half's normalised rows. -/
theorem pay2_9 (o : FVec Ideal S512x768 .fp8e4m3) (w : Vec Ideal S768x768 .fp8e4m3) (x : Vec Ideal S512x768 .f32) (s b g b' : Vec Ideal S1x768 .f32) :
    k2_pay9 o w x s b g b' = truncf .fp8e4m3 (norm (k2_pay8 o w x s b) g b') bitsLt_fp8e4m3_f32 := by
  unfold k2_pay9
  simp only [shapeCast_self]
  rfl

/-- The second half's output. -/
theorem pay2_1 (x1 nx : FVec Ideal S512x768 .f32) (w1 : Vec Ideal S768x3072 .fp8e4m3) (c1 : Vec Ideal S1x3072 .f32)
    (w2 : Vec Ideal S3072x768 .fp8e4m3) (s b2 : Vec Ideal S1x768 .f32) :
    k2_pay1 x1 (truncf .fp8e4m3 nx bitsLt_fp8e4m3_f32) w1 c1 w2 s b2 = ffn x1 nx w1 c1 w2 s b2 := by
  unfold k2_pay1
  simp only [shapeCast_self]
  rfl

/-- The residual rows after the attention. -/
def x1R {n : Nat} (o x : Fin n → Fin 768 → ℝ) (pw : Fin 768 → Fin 768 → ℝ) (s b : Fin 768 → ℝ) : Fin n → Fin 768 → ℝ :=
  fun r k => x r k + ((∑ i, o r i * pw i k) * (s k * (1 / 512)) + b k)

/-- The output rows from the residual rows. -/
def ffR {n : Nat} (x1 : Fin n → Fin 768 → ℝ) (g b : Fin 768 → ℝ) (w1 : Fin 768 → Fin 3072 → ℝ) (c1 : Fin 3072 → ℝ)
    (w2 : Fin 3072 → Fin 768 → ℝ) (s b2 : Fin 768 → ℝ) : Fin n → Fin 768 → ℝ :=
  fun r k => x1 r k + ((∑ i, ((1 / 8 * jp x1 g b w1 c1 r i) * (1 + erfR (jp x1 g b w1 c1 r i * es))) * w2 i k) * (s k * (1 / 256)) + b2 k)

/-- The residual rows of real blocks. -/
theorem x1_up (o x : Fin 512 → Fin 768 → ℝ) (pw : Fin 768 → Fin 768 → ℝ) (s b : Fin 768 → ℝ) :
    tail (up2 x) (proj (up2 o) (up2 pw)) (up2 (n := 1) fun _ => s) (up2 (n := 1) fun _ => b) (Scalar.ofBits .f32 0x3B000000#32) =
      up2 (x1R o x pw s b) := by
  rw [proj_up]
  exact tail_up _ _ _ _ _ _ word_512th

/-- A half block's output from real rows. -/
theorem ffn_up (x1 : Fin 512 → Fin 768 → ℝ) (g b : Fin 768 → ℝ) (w1 : Fin 768 → Fin 3072 → ℝ) (c1 : Fin 3072 → ℝ)
    (w2 : Fin 3072 → Fin 768 → ℝ) (s b2 : Fin 768 → ℝ) :
    ffn (up2 x1) (norm (up2 x1) (up2 (n := 1) fun _ => g) (up2 (n := 1) fun _ => b)) (up2 w1) (up2 (n := 1) fun _ => c1) (up2 w2) (up2 (n := 1) fun _ => s) (up2 (n := 1) fun _ => b2) =
      up2 (ffR x1 g b w1 c1 w2 s b2) := by
  unfold ffn
  rw [joint_up, gel_up, back_up]
  exact tail_up _ _ _ _ _ _ word_256th

/-- The upper half of a block of the attention's output. -/
theorem top8_up (x : Fin 1024 → Fin 768 → ℝ) :
    View.ld (Val := Elt Ideal) (e' := .fp8e4m3) (up2 x) r2_0 = up2 fun (r : Fin 512) k => x ⟨r.val, by omega⟩ k := by
  funext j; idx_vars j
  pointwise [up2]

/-- The lower half of a block of the attention's output. -/
theorem bot8_up (x : Fin 1024 → Fin 768 → ℝ) :
    View.ld (Val := Elt Ideal) (e' := .fp8e4m3) (up2 x) r2_6 = up2 fun (r : Fin 512) k => x ⟨512 + r.val, by omega⟩ k := by
  funext j; idx_vars j
  pointwise [up2]

/-- A load of the whole projection reads it. -/
theorem ld2_1 (X : Vec Ideal S768x768 .fp8e4m3) : View.ld X r2_1 = X := View.ld_unit_zero (S := S768x768) hz2 _ X
/-- A load of the whole second layer reads it. -/
theorem ld2_5 (X : Vec Ideal S3072x768 .fp8e4m3) : View.ld X r2_5 = X := View.ld_unit_zero (S := S3072x768) hz2 _ X

/-- A block of the output. -/
theorem out2_up (o x : Fin 1024 → Fin 768 → ℝ) (pw : Fin 768 → Fin 768 → ℝ) (s b g2 b2 : Fin 768 → ℝ) (w1 : Fin 768 → Fin 3072 → ℝ) (c1 : Fin 3072 → ℝ)
    (w2 : Fin 3072 → Fin 768 → ℝ) (s2 bs2 : Fin 768 → ℝ) :
    out2_12 (F := Ideal) (up2 o) (up2 pw) (up2 x) (up2 (n := 1) fun _ => s) (up2 (n := 1) fun _ => b) (up2 (n := 1) fun _ => g2) (up2 (n := 1) fun _ => b2)
      (up2 w1) (up2 (n := 1) fun _ => c1) (up2 w2) (up2 (n := 1) fun _ => s2) (up2 (n := 1) fun _ => bs2) =
      up2 (ffR (x1R o x pw s b) g2 b2 w1 c1 w2 s2 bs2) := by
  funext y
  unfold out2_12 k2_pay10
  refine View.canon_apply_of_pieces _ _ ?_ y (cover2_12 _ _ y)
  rw [bot8_up, top8_up]
  erw [top_up, bot_up, ld2_1, ld0_1, ld0_1, ld0_1, ld0_1, ld0_2, ld0_3, ld2_5, ld0_1, ld0_1]
  rw [pay2_9, pay2_8, pay2_5, pay2_2, pay2_1, pay2_6, x1_up, x1_up, ffn_up, ffn_up]
  intro p hp i
  simp only [List.mem_cons, List.not_mem_nil, or_false] at hp
  rcases hp with rfl | rfl
  · exact (emb0_5 (ffR (x1R o x pw s b) g2 b2 w1 c1 w2 s2 bs2) i).symm
  · exact (emb0_0 (ffR (x1R o x pw s b) g2 b2 w1 c1 w2 s2 bs2) i).symm

end Cert.Block.Kern

end
-- ==== Proof.Reg2.lean ====
/- The third region's array: from the real attention to the real output rows. -/
module

public import proofs.«01_k».proof.Proof.KOut2
public import proofs.«01_k».proof.Proof.Reg0

@[expose] public section

set_option maxRecDepth 16384

noncomputable section

namespace Cert.Block.Kern

open Idealize.ShloMosaic Idealize.ShloMosaic.TcCoe Cert.KernelIdeal Cert.KernelIdeal.Gen
open Idealize.ShloMosaic.Pipeline (Dat Cfg Window BodyObligation cellOf)

variable (V : (c : Dev nD) → (b : Ref sig .tc) → Buf (Elt Ideal) ((c : Thread nD τ).loc b)) (c : Dev nD)

/-- The number of points. -/
theorem N2 : cfg2.N = 2 := by decide +kernel
/-- A point is one of two. -/
theorem lt2 (t : Fin cfg2.N) : t.val < 2 := lt_of_lt_of_eq t.isLt N2

/-- The block index of window 0 at each point. -/
theorem ix2_0 : ∀ t : Fin grid2.N, win2_0.index t 0 = t.val ∧ win2_0.index t 1 = 0 := by decide +kernel
/-- What window 0 reads at a point. -/
theorem blk2_0 (t : Fin cfg2.N) (f : Fin 2048 → Fin 768 → ℝ) (h : V c main_v26 = up2 f) :
    iblk2 V c 0 t = up2 fun (r : Fin 1024) (k : Fin 768) => f ⟨(t.val) * 1024 + r.val, by have := lt2 t; omega⟩ k := by
  funext i
  show V c main_v26 ((win2_0.rect t).emb i) = _
  rw [h]
  refine up2_at _ _ _ _ ?_ ?_
  · show win2_0.index t 0 * 1024 + 1 * (i 0).val = (t.val) * 1024 + (i 0).val
    rw [(ix2_0 t).1]; omega
  · show win2_0.index t 1 * 768 + 1 * (i 1).val = (i 1).val
    rw [(ix2_0 t).2]; omega

/-- The block index of window 1 at each point. -/
theorem ix2_1 : ∀ t : Fin grid2.N, win2_1.index t 0 = 0 ∧ win2_1.index t 1 = 0 := by decide +kernel
/-- What window 1 reads at a point. -/
theorem blk2_1 (t : Fin cfg2.N) (f : Fin 768 → Fin 768 → ℝ) (h : V c main_v31 = up2 f) :
    iblk2 V c 1 t = up2 fun (r : Fin 768) (k : Fin 768) => f r k := by
  funext i
  show V c main_v31 ((win2_1.rect t).emb i) = _
  rw [h]
  refine up2_at _ _ _ _ ?_ ?_
  · show win2_1.index t 0 * 768 + 1 * (i 0).val = (i 0).val
    rw [(ix2_1 t).1]; omega
  · show win2_1.index t 1 * 768 + 1 * (i 1).val = (i 1).val
    rw [(ix2_1 t).2]; omega

/-- The block index of window 2 at each point. -/
theorem ix2_2 : ∀ t : Fin grid2.N, win2_2.index t 0 = t.val ∧ win2_2.index t 1 = 0 := by decide +kernel
/-- What window 2 reads at a point. -/
theorem blk2_2 (t : Fin cfg2.N) (f : Fin 2048 → Fin 768 → ℝ) (h : V c main_v0 = up2 f) :
    iblk2 V c 2 t = up2 fun (r : Fin 1024) (k : Fin 768) => f ⟨(t.val) * 1024 + r.val, by have := lt2 t; omega⟩ k := by
  funext i
  show V c main_v0 ((win2_2.rect t).emb i) = _
  rw [h]
  refine up2_at _ _ _ _ ?_ ?_
  · show win2_2.index t 0 * 1024 + 1 * (i 0).val = (t.val) * 1024 + (i 0).val
    rw [(ix2_2 t).1]; omega
  · show win2_2.index t 1 * 768 + 1 * (i 1).val = (i 1).val
    rw [(ix2_2 t).2]; omega

/-- The block index of window 3 at each point. -/
theorem ix2_3 : ∀ t : Fin grid2.N, win2_3.index t 0 = 0 ∧ win2_3.index t 1 = 0 := by decide +kernel
/-- What window 3 reads at a point. -/
theorem blk2_3 (t : Fin cfg2.N) (f : Fin 768 → ℝ) (h : V c main_v32 = up2 (n := 1) fun _ => f) :
    iblk2 V c 3 t = up2 (n := 1) fun _ => f := by
  funext i
  show V c main_v32 ((win2_3.rect t).emb i) = _
  rw [h]
  refine up2_at _ _ (i 0) (i 1) ?_ ?_
  · show win2_3.index t 0 * 1 + 1 * (i 0).val = (i 0).val
    rw [(ix2_3 t).1]; omega
  · show win2_3.index t 1 * 768 + 1 * (i 1).val = (i 1).val
    rw [(ix2_3 t).2]; omega

/-- The block index of window 4 at each point. -/
theorem ix2_4 : ∀ t : Fin grid2.N, win2_4.index t 0 = 0 ∧ win2_4.index t 1 = 0 := by decide +kernel
/-- What window 4 reads at a point. -/
theorem blk2_4 (t : Fin cfg2.N) (f : Fin 768 → ℝ) (h : V c main_v33 = up2 (n := 1) fun _ => f) :
    iblk2 V c 4 t = up2 (n := 1) fun _ => f := by
  funext i
  show V c main_v33 ((win2_4.rect t).emb i) = _
  rw [h]
  refine up2_at _ _ (i 0) (i 1) ?_ ?_
  · show win2_4.index t 0 * 1 + 1 * (i 0).val = (i 0).val
    rw [(ix2_4 t).1]; omega
  · show win2_4.index t 1 * 768 + 1 * (i 1).val = (i 1).val
    rw [(ix2_4 t).2]; omega

/-- The block index of window 5 at each point. -/
theorem ix2_5 : ∀ t : Fin grid2.N, win2_5.index t 0 = 0 ∧ win2_5.index t 1 = 0 := by decide +kernel
/-- What window 5 reads at a point. -/
theorem blk2_5 (t : Fin cfg2.N) (f : Fin 768 → ℝ) (h : V c main_v34 = up2 (n := 1) fun _ => f) :
    iblk2 V c 5 t = up2 (n := 1) fun _ => f := by
  funext i
  show V c main_v34 ((win2_5.rect t).emb i) = _
  rw [h]
  refine up2_at _ _ (i 0) (i 1) ?_ ?_
  · show win2_5.index t 0 * 1 + 1 * (i 0).val = (i 0).val
    rw [(ix2_5 t).1]; omega
  · show win2_5.index t 1 * 768 + 1 * (i 1).val = (i 1).val
    rw [(ix2_5 t).2]; omega

/-- The block index of window 6 at each point. -/
theorem ix2_6 : ∀ t : Fin grid2.N, win2_6.index t 0 = 0 ∧ win2_6.index t 1 = 0 := by decide +kernel
/-- What window 6 reads at a point. -/
theorem blk2_6 (t : Fin cfg2.N) (f : Fin 768 → ℝ) (h : V c main_v35 = up2 (n := 1) fun _ => f) :
    iblk2 V c 6 t = up2 (n := 1) fun _ => f := by
  funext i
  show V c main_v35 ((win2_6.rect t).emb i) = _
  rw [h]
  refine up2_at _ _ (i 0) (i 1) ?_ ?_
  · show win2_6.index t 0 * 1 + 1 * (i 0).val = (i 0).val
    rw [(ix2_6 t).1]; omega
  · show win2_6.index t 1 * 768 + 1 * (i 1).val = (i 1).val
    rw [(ix2_6 t).2]; omega

/-- The block index of window 7 at each point. -/
theorem ix2_7 : ∀ t : Fin grid2.N, win2_7.index t 0 = 0 ∧ win2_7.index t 1 = 0 := by decide +kernel
/-- What window 7 reads at a point. -/
theorem blk2_7 (t : Fin cfg2.N) (f : Fin 768 → Fin 3072 → ℝ) (h : V c main_v38 = up2 f) :
    iblk2 V c 7 t = up2 fun (r : Fin 768) (k : Fin 3072) => f r k := by
  funext i
  show V c main_v38 ((win2_7.rect t).emb i) = _
  rw [h]
  refine up2_at _ _ _ _ ?_ ?_
  · show win2_7.index t 0 * 768 + 1 * (i 0).val = (i 0).val
    rw [(ix2_7 t).1]; omega
  · show win2_7.index t 1 * 3072 + 1 * (i 1).val = (i 1).val
    rw [(ix2_7 t).2]; omega

/-- The block index of window 8 at each point. -/
theorem ix2_8 : ∀ t : Fin grid2.N, win2_8.index t 0 = 0 ∧ win2_8.index t 1 = 0 := by decide +kernel
/-- What window 8 reads at a point. -/
theorem blk2_8 (t : Fin cfg2.N) (f : Fin 3072 → ℝ) (h : V c main_v41 = up2 (n := 1) fun _ => f) :
    iblk2 V c 8 t = up2 (n := 1) fun _ => f := by
  funext i
  show V c main_v41 ((win2_8.rect t).emb i) = _
  rw [h]
  refine up2_at _ _ (i 0) (i 1) ?_ ?_
  · show win2_8.index t 0 * 1 + 1 * (i 0).val = (i 0).val
    rw [(ix2_8 t).1]; omega
  · show win2_8.index t 1 * 3072 + 1 * (i 1).val = (i 1).val
    rw [(ix2_8 t).2]; omega

/-- The block index of window 9 at each point. -/
theorem ix2_9 : ∀ t : Fin grid2.N, win2_9.index t 0 = 0 ∧ win2_9.index t 1 = 0 := by decide +kernel
/-- What window 9 reads at a point. -/
theorem blk2_9 (t : Fin cfg2.N) (f : Fin 3072 → Fin 768 → ℝ) (h : V c main_v44 = up2 f) :
    iblk2 V c 9 t = up2 fun (r : Fin 3072) (k : Fin 768) => f r k := by
  funext i
  show V c main_v44 ((win2_9.rect t).emb i) = _
  rw [h]
  refine up2_at _ _ _ _ ?_ ?_
  · show win2_9.index t 0 * 3072 + 1 * (i 0).val = (i 0).val
    rw [(ix2_9 t).1]; omega
  · show win2_9.index t 1 * 768 + 1 * (i 1).val = (i 1).val
    rw [(ix2_9 t).2]; omega

/-- The block index of window 10 at each point. -/
theorem ix2_10 : ∀ t : Fin grid2.N, win2_10.index t 0 = 0 ∧ win2_10.index t 1 = 0 := by decide +kernel
/-- What window 10 reads at a point. -/
theorem blk2_10 (t : Fin cfg2.N) (f : Fin 768 → ℝ) (h : V c main_v45 = up2 (n := 1) fun _ => f) :
    iblk2 V c 10 t = up2 (n := 1) fun _ => f := by
  funext i
  show V c main_v45 ((win2_10.rect t).emb i) = _
  rw [h]
  refine up2_at _ _ (i 0) (i 1) ?_ ?_
  · show win2_10.index t 0 * 1 + 1 * (i 0).val = (i 0).val
    rw [(ix2_10 t).1]; omega
  · show win2_10.index t 1 * 768 + 1 * (i 1).val = (i 1).val
    rw [(ix2_10 t).2]; omega

/-- The block index of window 11 at each point. -/
theorem ix2_11 : ∀ t : Fin grid2.N, win2_11.index t 0 = 0 ∧ win2_11.index t 1 = 0 := by decide +kernel
/-- What window 11 reads at a point. -/
theorem blk2_11 (t : Fin cfg2.N) (f : Fin 768 → ℝ) (h : V c main_v46 = up2 (n := 1) fun _ => f) :
    iblk2 V c 11 t = up2 (n := 1) fun _ => f := by
  funext i
  show V c main_v46 ((win2_11.rect t).emb i) = _
  rw [h]
  refine up2_at _ _ (i 0) (i 1) ?_ ?_
  · show win2_11.index t 0 * 1 + 1 * (i 0).val = (i 0).val
    rw [(ix2_11 t).1]; omega
  · show win2_11.index t 1 * 768 + 1 * (i 1).val = (i 1).val
    rw [(ix2_11 t).2]; omega

/-- The block index of window 12 at each point. -/
theorem ix2_12 : ∀ t : Fin grid2.N, win2_12.index t 0 = t.val ∧ win2_12.index t 1 = 0 := by decide +kernel
/-- The output rows, a point's part. -/
theorem flushed2_12 (o : Fin 2048 → Fin 768 → ℝ) (pw : Fin 768 → Fin 768 → ℝ) (x : Fin 2048 → Fin 768 → ℝ) (s : Fin 768 → ℝ) (b : Fin 768 → ℝ) (g2 : Fin 768 → ℝ) (b2 : Fin 768 → ℝ) (w1 : Fin 768 → Fin 3072 → ℝ) (c1 : Fin 3072 → ℝ) (w2 : Fin 3072 → Fin 768 → ℝ) (s2 : Fin 768 → ℝ) (bs2 : Fin 768 → ℝ) (e0 : V c main_v26 = up2 o) (e1 : V c main_v31 = up2 pw) (e2 : V c main_v0 = up2 x) (e3 : V c main_v32 = up2 (n := 1) fun _ => s) (e4 : V c main_v33 = up2 (n := 1) fun _ => b) (e5 : V c main_v34 = up2 (n := 1) fun _ => g2) (e6 : V c main_v35 = up2 (n := 1) fun _ => b2) (e7 : V c main_v38 = up2 w1) (e8 : V c main_v41 = up2 (n := 1) fun _ => c1) (e9 : V c main_v44 = up2 w2) (e10 : V c main_v45 = up2 (n := 1) fun _ => s2) (e11 : V c main_v46 = up2 (n := 1) fun _ => bs2) (t : Fin cfg2.N) :
    (dat2 V c).flushed 12 t = (win2_12.blk t).view.read (Elt Ideal) (up2 (ffR (x1R o x pw s b) g2 b2 w1 c1 w2 s2 bs2) : S2048x768.Idx → EReal) := by
  show (cfg2.win 12).cut (grid2.coords t) ((dat2 V c).after 12 t) = _
  rw [after2_12, blk2_0 V c t o e0, blk2_1 V c t pw e1, blk2_2 V c t x e2, blk2_3 V c t s e3, blk2_4 V c t b e4, blk2_5 V c t g2 e5, blk2_6 V c t b2 e6, blk2_7 V c t w1 e7, blk2_8 V c t c1 e8, blk2_9 V c t w2 e9, blk2_10 V c t s2 e10, blk2_11 V c t bs2 e11, out2_up]
  funext i
  show up2 _ i = up2 (ffR (x1R o x pw s b) g2 b2 w1 c1 w2 s2 bs2) ((win2_12.rect t).emb i)
  have h0 := lt2 t
  have h1 : (i 0).val < 1024 := (i 0).isLt
  have h2 : (i 1).val < 768 := (i 1).isLt
  rw [up2_at (ffR (x1R o x pw s b) g2 b2 w1 c1 w2 s2 bs2) ((win2_12.rect t).emb i) ⟨(t.val) * 1024 + (i 0).val, by omega⟩ ⟨(i 1).val, by omega⟩
    (by show win2_12.index t 0 * 1024 + 1 * (i 0).val = _; rw [(ix2_12 t).1]; simp only [Nat.one_mul, Nat.zero_mul, Nat.zero_add])
    (by show win2_12.index t 1 * 768 + 1 * (i 1).val = _; rw [(ix2_12 t).2]; simp only [Nat.one_mul, Nat.zero_mul, Nat.zero_add])]
  rfl

/-- An index of the array is in a point's block when its coordinates are. -/
theorem mem2_12 (t : Fin cfg2.N) (i : S2048x768.Idx)
    (h0 : t.val * 1024 ≤ (i 0 : Nat) ∧ (i 0 : Nat) < t.val * 1024 + 1024) (h1 : 0 * 768 ≤ (i 1 : Nat) ∧ (i 1 : Nat) < 0 * 768 + 768) :
    i ∈ ((cfg2.win 12).blk t).view.set := by
  show i ∈ ((View.whole main_v47).slice (win2_12.rect t)).set
  rw [View.set_slice_whole, Rect.mem_set_unit]
  intro a
  match a with
  | ⟨0, _⟩ => show win2_12.index t 0 * 1024 ≤ (i 0 : Nat) ∧ (i 0 : Nat) < win2_12.index t 0 * 1024 + 1024
              rw [(ix2_12 t).1]; exact h0
  | ⟨1, _⟩ => show win2_12.index t 1 * 768 ≤ (i 1 : Nat) ∧ (i 1 : Nat) < win2_12.index t 1 * 768 + 768
              rw [(ix2_12 t).2]; exact h1

/-- The points' blocks cover the array. -/
theorem cov2_12 (i : S2048x768.Idx) : ∃ t : Fin cfg2.N, (cfg2.win 12).flush t = true ∧ i ∈ ((cfg2.win 12).blk t).view.set := by
  have h0 : (i 0 : Nat) < 2048 := (i 0).isLt
  have h1 : (i 1 : Nat) < 768 := (i 1).isLt
  have hN := N2
  refine ⟨⟨(i 0 : Nat) / 1024, by omega⟩, flush2_12 _, mem2_12 _ i ?_ ?_⟩
  · dsimp only; omega
  · dsimp only; omega

/-- The output rows. -/
theorem arr_out (o : Fin 2048 → Fin 768 → ℝ) (pw : Fin 768 → Fin 768 → ℝ) (x : Fin 2048 → Fin 768 → ℝ) (s : Fin 768 → ℝ) (b : Fin 768 → ℝ) (g2 : Fin 768 → ℝ) (b2 : Fin 768 → ℝ) (w1 : Fin 768 → Fin 3072 → ℝ) (c1 : Fin 3072 → ℝ) (w2 : Fin 3072 → Fin 768 → ℝ) (s2 : Fin 768 → ℝ) (bs2 : Fin 768 → ℝ) (e0 : V c main_v26 = up2 o) (e1 : V c main_v31 = up2 pw) (e2 : V c main_v0 = up2 x) (e3 : V c main_v32 = up2 (n := 1) fun _ => s) (e4 : V c main_v33 = up2 (n := 1) fun _ => b) (e5 : V c main_v34 = up2 (n := 1) fun _ => g2) (e6 : V c main_v35 = up2 (n := 1) fun _ => b2) (e7 : V c main_v38 = up2 w1) (e8 : V c main_v41 = up2 (n := 1) fun _ => c1) (e9 : V c main_v44 = up2 w2) (e10 : V c main_v45 = up2 (n := 1) fun _ => s2) (e11 : V c main_v46 = up2 (n := 1) fun _ => bs2) :
    (dat2 V c).arrAt 12 cfg2.N = (up2 (ffR (x1R o x pw s b) g2 b2 w1 c1 w2 s2 bs2) : S2048x768.Idx → EReal) :=
  (dat2 V c).arrAt_eq_of_cover 12 _ (fun t _ => flushed2_12 V c o pw x s b g2 b2 w1 c1 w2 s2 bs2 e0 e1 e2 e3 e4 e5 e6 e7 e8 e9 e10 e11 t) cov2_12

end Cert.Block.Kern

end
-- ==== Proof.KOut1.lean ====
/- The second region's block on real rows: two heads' softmax over all rows times the values. -/
module

public import proofs.«01_k».proof.Proof.KOut0

@[expose] public section

set_option maxRecDepth 16384

noncomputable section

namespace Cert.Block.Kern

open Idealize.ShloMosaic Cert.KernelIdeal Cert.KernelIdeal.Gen

/-- The exponentials of one head's scores. -/
def ex (q k : FVec Ideal S2048x64 .fp8e4m3) : FVec Ideal S2048x2048 .fp8e4m3 :=
  truncf .fp8e4m3 (exp2 (truncf .bf16 (matmul dot_S2048x64_S2048x64_S2048x2048_1_1_0_0_n_n none q k (constant (F := Ideal) S2048x2048 .f32 0x00000000#32)) bitsLt_bf16_f32)) bitsLt_fp8e4m3_bf16

/-- The exponentials times the values, beside them the values' unit column. -/
def ev (e : FVec Ideal S2048x2048 .fp8e4m3) (v : FVec Ideal S2048x128 .fp8e4m3) : FVec Ideal S2048x128 .f32 :=
  matmul dot_S2048x2048_S2048x128_S2048x128_1_0_0_1_n_n none e v (constant S2048x128 .f32 0x00000000#32)

/-- The first 64 columns of a product. -/
def num (a : FVec Ideal S2048x128 .f32) : FVec Ideal S2048x64 .f32 :=
  extractStridedSlice S2048x64 ![0, 0] a slices_S2048x128_o0_0_S2048x64

/-- Sixteen over the column after them, on every column. -/
def den (a : FVec Ideal S2048x128 .f32) : FVec Ideal S2048x64 .f32 :=
  broadcastTo S2048x64 (mulf (broadcast S2048x1 (Scalar.ofBits .f32 0x41800000#32)) (divf (broadcast S2048x1 (Scalar.ofBits .f32 0x3F800000#32)) (extractStridedSlice S2048x1 ![0, 64] a slices_S2048x128_o0_64_S2048x1))) broadcasts_S2048x1_S2048x64

/-- Two heads side by side. -/
def pair (a b : FVec Ideal S2048x64 .fp8e4m3) : FVec Ideal S2048x128 .fp8e4m3 :=
  concatenate S2048x128 1 [⟨S2048x64, a⟩, ⟨S2048x64, b⟩] concatenates_S2048x64_S2048x64_S2048x128_d1

/-- The exponentials of real scores. -/
theorem ex_up (q k : Fin 2048 → Fin 64 → ℝ) : ex (up2 q) (up2 k) = up2 fun n m => Real.rpow 2 (∑ d, q n d * k m d) := by
  funext j; idx_vars j
  pointwise [ex, up2]
  simp only [← EReal.coe_mul, coe_sum]
  rfl

/-- The product of real exponentials and values. -/
theorem ev_up (e : Fin 2048 → Fin 2048 → ℝ) (v : Fin 2048 → Fin 128 → ℝ) :
    ev (up2 e) (up2 v) = up2 fun n c => ∑ m, e n m * v m c := by
  funext j; idx_vars j
  pointwise [ev, up2]
  simp only [← EReal.coe_mul, coe_sum]

/-- The numerator of a real product. -/
theorem num_up (a : Fin 2048 → Fin 128 → ℝ) : num (up2 a) = up2 fun n (d : Fin 64) => a n ⟨d.val, by omega⟩ := by
  funext j; idx_vars j
  pointwise [num, up2]

/-- The denominator of a real product whose unit column vanishes nowhere. -/
theorem den_up (a : Fin 2048 → Fin 128 → ℝ) (h : ∀ n, a n 64 ≠ 0) : den (up2 a) = up2 fun n (_ : Fin 64) => 16 * (1 / a n 64) := by
  funext j; idx_vars j
  pointwise [den, up2]
  rw [word_16]
  show ((16 : ℝ) : EReal) * Ideal.div ((1 : ℝ) : EReal) _ = _
  rw [div_real _ _ (h j0), ← EReal.coe_mul]

/-- A product's scaled rows. -/
theorem scaled_up (a b : Fin 2048 → Fin 64 → ℝ) :
    truncf (F := Ideal) (s := S2048x64) .fp8e4m3 (mulf (φ := .f32) (up2 a) (up2 b)) bitsLt_fp8e4m3_f32 = up2 fun n d => a n d * b n d := by
  funext j; idx_vars j
  pointwise [up2]
  rw [← EReal.coe_mul]

/-- One head's output from its queries, keys and widened values. -/
def headv (q k : Fin 2048 → Fin 64 → ℝ) (v : Fin 2048 → Fin 128 → ℝ) : Fin 2048 → Fin 64 → ℝ :=
  fun n d => (∑ m, Real.rpow 2 (∑ d, q n d * k m d) * v m ⟨d.val, by omega⟩) * (16 * (1 / ∑ m, Real.rpow 2 (∑ d, q n d * k m d) * v m 64))

/-- Two real heads side by side. -/
theorem pair_up (a b : Fin 2048 → Fin 64 → ℝ) :
    pair (up2 a) (up2 b) = up2 fun n (c : Fin 128) => if h : c.val < 64 then a n ⟨c.val, h⟩ else b n ⟨c.val - 64, by omega⟩ := by
  funext j; idx_vars j
  pointwise [pair, up2]
  split <;> rename_i h
  · simp only [dif_pos h]
  · simp only [dif_neg h]

/-- The first head's output, by these pieces. -/
theorem pay1_3 (q k : Vec Ideal S2048x64 .fp8e4m3) (v : Vec Ideal S2048x128 .fp8e4m3) :
    k1_pay3 q k v = truncf .fp8e4m3 (mulf (num (ev (ex q k) v)) (den (ev (ex q k) v))) bitsLt_fp8e4m3_f32 := by
  unfold k1_pay3
  simp only [shapeCast_self]
  rfl

/-- The second head's numerators. -/
theorem pay1_4 (q k : Vec Ideal S2048x64 .fp8e4m3) (v : Vec Ideal S2048x128 .fp8e4m3) :
    k1_pay4 q k v = num (ev (ex q k) v) := by
  unfold k1_pay4 k1_pay2
  simp only [shapeCast_self]
  rfl

/-- The second head's factors. -/
theorem pay1_5 (q k : Vec Ideal S2048x64 .fp8e4m3) (v : Vec Ideal S2048x128 .fp8e4m3) :
    k1_pay5 q k v = den (ev (ex q k) v) := by
  unfold k1_pay5 k1_pay2
  simp only [shapeCast_self]
  rfl

/-- The two heads side by side. -/
theorem pay1_1 (a : FVec Ideal S2048x64 .fp8e4m3) (b c : FVec Ideal S2048x64 .f32) :
    k1_pay1 a b c = pair a (truncf .fp8e4m3 (mulf b c) bitsLt_fp8e4m3_f32) := rfl

/-- One head's output is real when its denominators do not vanish. -/
theorem head_up (q k : Fin 2048 → Fin 64 → ℝ) (v : Fin 2048 → Fin 128 → ℝ)
    (h : ∀ n, (∑ m, Real.rpow 2 (∑ d, q n d * k m d) * v m 64) ≠ 0) :
    truncf (F := Ideal) .fp8e4m3 (mulf (num (ev (ex (up2 q) (up2 k)) (up2 v))) (den (ev (ex (up2 q) (up2 k)) (up2 v)))) bitsLt_fp8e4m3_f32 =
      up2 (headv q k v) := by
  rw [ex_up, ev_up, num_up, den_up _ h]
  exact scaled_up _ _

/-- The first head's columns. -/
theorem left_up (x : Fin 2048 → Fin 128 → ℝ) :
    View.ld (Val := Elt Ideal) (e' := .fp8e4m3) (up2 x) r1_0 = up2 fun r (k : Fin 64) => x r ⟨k.val, by omega⟩ := by
  funext j; idx_vars j
  pointwise [up2]

/-- The second head's columns. -/
theorem right_up (x : Fin 2048 → Fin 128 → ℝ) :
    View.ld (Val := Elt Ideal) (e' := .fp8e4m3) (up2 x) r1_1 = up2 fun r (k : Fin 64) => x r ⟨64 + k.val, by omega⟩ := by
  funext j; idx_vars j
  pointwise [up2]

/-- The whole values loaded. -/
theorem ld1_2 (X : Vec Ideal S2048x128 .fp8e4m3) : View.ld X r1_2 = X := View.ld_unit_zero (S := S2048x128) hz2 _ X

/-- A pair of heads' block. -/
theorem out1_up (q k v v' : Fin 2048 → Fin 128 → ℝ)
    (h : ∀ n, (∑ m, Real.rpow 2 (∑ d : Fin 64, q n ⟨d.val, by omega⟩ * k m ⟨d.val, by omega⟩) * v m 64) ≠ 0)
    (h' : ∀ n, (∑ m, Real.rpow 2 (∑ d : Fin 64, q n ⟨64 + d.val, by omega⟩ * k m ⟨64 + d.val, by omega⟩) * v' m 64) ≠ 0) :
    out1_4 (F := Ideal) (up2 q) (up2 k) (up2 v) (up2 v') =
      up2 fun n (c : Fin 128) => if h : c.val < 64 then
          headv (fun r d => q r ⟨d.val, by omega⟩) (fun r d => k r ⟨d.val, by omega⟩) v n ⟨c.val, h⟩
        else headv (fun r d => q r ⟨64 + d.val, by omega⟩) (fun r d => k r ⟨64 + d.val, by omega⟩) v' n ⟨c.val - 64, by omega⟩ := by
  unfold out1_4
  rw [View.canon_unit_zero (S := S2048x128) hz2, left_up, left_up, right_up, right_up]
  erw [ld1_2, ld1_2]
  rw [pay1_1, pay1_3, pay1_4, pay1_5, head_up _ _ _ h, head_up _ _ _ h']
  exact pair_up _ _

end Cert.Block.Kern

end
-- ==== Proof.Reg1.lean ====
/- The second region's array: from real queries, keys and values to the scaled attention. -/
module

public import proofs.«01_k».proof.Proof.KOut1
public import proofs.«01_k».proof.Proof.Reg0

@[expose] public section

set_option maxRecDepth 16384

noncomputable section

namespace Cert.Block.Kern

open Idealize.ShloMosaic Idealize.ShloMosaic.TcCoe Cert.KernelIdeal Cert.KernelIdeal.Gen
open Idealize.ShloMosaic.Pipeline (Dat Cfg Window BodyObligation cellOf)

/-- One head's columns of the queries or keys. -/
def hq (q : Fin 2048 → Fin 768 → ℝ) (h : Fin 12) : Fin 2048 → Fin 64 → ℝ := fun r d => q r ⟨h.val * 64 + d.val, by omega⟩

/-- One head's columns of the widened values. -/
def hv (v : Fin 2048 → Fin 1536 → ℝ) (h : Fin 12) : Fin 2048 → Fin 128 → ℝ := fun r d => v r ⟨h.val * 128 + d.val, by omega⟩

/-- The sum of a row's exponentials, as the kernel forms it. -/
def dn (q k : Fin 2048 → Fin 768 → ℝ) (v : Fin 2048 → Fin 1536 → ℝ) (h : Fin 12) (n : Fin 2048) : ℝ :=
  ∑ m, Real.rpow 2 (∑ d, hq q h n d * hq k h m d) * hv v h m 64

/-- All heads side by side. -/
def heads (q k : Fin 2048 → Fin 768 → ℝ) (v : Fin 2048 → Fin 1536 → ℝ) : Fin 2048 → Fin 768 → ℝ :=
  fun n c => headv (hq q (hd c)) (hq k (hd c)) (hv v (hd c)) n (co c)

/-- A pair's first head. -/
theorem heads_left (q k : Fin 2048 → Fin 768 → ℝ) (v : Fin 2048 → Fin 1536 → ℝ) (t : Nat) (ht : t < 6) (n : Fin 2048) (c : Fin 128) (hc : c.val < 64) :
    heads q k v n ⟨t * 128 + c.val, by omega⟩ =
      headv (fun r d => q r ⟨t * 128 + d.val, by omega⟩) (fun r d => k r ⟨t * 128 + d.val, by omega⟩) (fun r d => v r ⟨2 * t * 128 + d.val, by omega⟩) n ⟨c.val, hc⟩ := by
  have e1 : hd ⟨t * 128 + c.val, by omega⟩ = ⟨2 * t, by omega⟩ := Fin.ext (by show (t * 128 + c.val) / 64 = 2 * t; omega)
  have e2 : co ⟨t * 128 + c.val, by omega⟩ = ⟨c.val, hc⟩ := Fin.ext (by show (t * 128 + c.val) % 64 = c.val; omega)
  unfold heads
  rw [e1, e2]
  have e3 : ∀ q : Fin 2048 → Fin 768 → ℝ, hq q ⟨2 * t, by omega⟩ = fun r d => q r ⟨t * 128 + d.val, by omega⟩ := fun q => by
    funext r d; exact congrArg (q r) (Fin.ext (by show 2 * t * 64 + d.val = t * 128 + d.val; omega))
  rw [e3, e3]
  rfl

/-- A pair's second head. -/
theorem heads_right (q k : Fin 2048 → Fin 768 → ℝ) (v : Fin 2048 → Fin 1536 → ℝ) (t : Nat) (ht : t < 6) (n : Fin 2048) (c : Fin 128) (hc : ¬ c.val < 64) :
    heads q k v n ⟨t * 128 + c.val, by omega⟩ =
      headv (fun r d => q r ⟨t * 128 + (64 + d.val), by omega⟩) (fun r d => k r ⟨t * 128 + (64 + d.val), by omega⟩) (fun r d => v r ⟨(2 * t + 1) * 128 + d.val, by omega⟩) n ⟨c.val - 64, by omega⟩ := by
  have e1 : hd ⟨t * 128 + c.val, by omega⟩ = ⟨2 * t + 1, by omega⟩ := Fin.ext (by show (t * 128 + c.val) / 64 = 2 * t + 1; omega)
  have e2 : co ⟨t * 128 + c.val, by omega⟩ = ⟨c.val - 64, by omega⟩ := Fin.ext (by show (t * 128 + c.val) % 64 = c.val - 64; omega)
  unfold heads
  rw [e1, e2]
  have e3 : ∀ q : Fin 2048 → Fin 768 → ℝ, hq q ⟨2 * t + 1, by omega⟩ = fun r d => q r ⟨t * 128 + (64 + d.val), by omega⟩ := fun q => by
    funext r d; exact congrArg (q r) (Fin.ext (by show (2 * t + 1) * 64 + d.val = t * 128 + (64 + d.val); omega))
  rw [e3, e3]
  rfl

/-- A pair's first denominator. -/
theorem dn_left (q k : Fin 2048 → Fin 768 → ℝ) (v : Fin 2048 → Fin 1536 → ℝ) (t : Nat) (ht : t < 6) (n : Fin 2048) :
    (∑ m, Real.rpow 2 (∑ d : Fin 64, q n ⟨t * 128 + d.val, by omega⟩ * k m ⟨t * 128 + d.val, by omega⟩) * v m ⟨2 * t * 128 + (64 : Fin 128).val, by omega⟩) = dn q k v ⟨2 * t, by omega⟩ n := by
  have e3 : ∀ (q : Fin 2048 → Fin 768 → ℝ) r (d : Fin 64), q r ⟨t * 128 + d.val, by omega⟩ = hq q ⟨2 * t, by omega⟩ r d := fun q r d =>
    congrArg (q r) (Fin.ext (by show t * 128 + d.val = 2 * t * 64 + d.val; omega))
  simp only [e3]
  rfl

/-- A pair's second denominator. -/
theorem dn_right (q k : Fin 2048 → Fin 768 → ℝ) (v : Fin 2048 → Fin 1536 → ℝ) (t : Nat) (ht : t < 6) (n : Fin 2048) :
    (∑ m, Real.rpow 2 (∑ d : Fin 64, q n ⟨t * 128 + (64 + d.val), by omega⟩ * k m ⟨t * 128 + (64 + d.val), by omega⟩) * v m ⟨(2 * t + 1) * 128 + (64 : Fin 128).val, by omega⟩) = dn q k v ⟨2 * t + 1, by omega⟩ n := by
  have e3 : ∀ (q : Fin 2048 → Fin 768 → ℝ) r (d : Fin 64), q r ⟨t * 128 + (64 + d.val), by omega⟩ = hq q ⟨2 * t + 1, by omega⟩ r d := fun q r d =>
    congrArg (q r) (Fin.ext (by show t * 128 + (64 + d.val) = (2 * t + 1) * 64 + d.val; omega))
  simp only [e3]
  rfl

/-- A pair's block, from the whole arrays. -/
theorem pair_out (q k : Fin 2048 → Fin 768 → ℝ) (v : Fin 2048 → Fin 1536 → ℝ) (t : Nat) (ht : t < 6) (hd0 : ∀ h n, dn q k v h n ≠ 0) :
    out1_4 (F := Ideal) (up2 fun r (d : Fin 128) => q r ⟨t * 128 + d.val, by omega⟩) (up2 fun r (d : Fin 128) => k r ⟨t * 128 + d.val, by omega⟩)
      (up2 fun r (d : Fin 128) => v r ⟨2 * t * 128 + d.val, by omega⟩) (up2 fun r (d : Fin 128) => v r ⟨(2 * t + 1) * 128 + d.val, by omega⟩) =
      up2 fun n (c : Fin 128) => heads q k v n ⟨t * 128 + c.val, by omega⟩ := by
  rw [out1_up]
  · refine congrArg up2 (funext fun n => funext fun c => ?_)
    by_cases h3 : c.val < 64
    · rw [dif_pos h3]; exact (heads_left q k v t ht n c h3).symm
    · rw [dif_neg h3]; exact (heads_right q k v t ht n c h3).symm
  · intro n
    have h := hd0 ⟨2 * t, by omega⟩ n
    rw [← dn_left q k v t ht n] at h
    exact h
  · intro n
    have h := hd0 ⟨2 * t + 1, by omega⟩ n
    rw [← dn_right q k v t ht n] at h
    exact h

variable (V : (c : Dev nD) → (b : Ref sig .tc) → Buf (Elt Ideal) ((c : Thread nD τ).loc b)) (c : Dev nD)

/-- The number of points. -/
theorem N1 : cfg1.N = 6 := by decide +kernel
/-- A point is one of six. -/
theorem lt1 (t : Fin cfg1.N) : t.val < 6 := lt_of_lt_of_eq t.isLt N1

/-- The block index of window 0 at each point. -/
theorem ix1_0 : ∀ t : Fin grid1.N, win1_0.index t 0 = 0 ∧ win1_0.index t 1 = t.val := by decide +kernel
/-- What window 0 reads at a point. -/
theorem blk1_0 (t : Fin cfg1.N) (f : Fin 2048 → Fin 768 → ℝ) (h : V c main_v25_0 = up2 f) :
    iblk1 V c 0 t = up2 fun (r : Fin 2048) (k : Fin 128) => f r ⟨(t.val) * 128 + k.val, by have := lt1 t; omega⟩ := by
  funext i
  show V c main_v25_0 ((win1_0.rect t).emb i) = _
  rw [h]
  refine up2_at _ _ _ _ ?_ ?_
  · show win1_0.index t 0 * 2048 + 1 * (i 0).val = (i 0).val
    rw [(ix1_0 t).1]; omega
  · show win1_0.index t 1 * 128 + 1 * (i 1).val = (t.val) * 128 + (i 1).val
    rw [(ix1_0 t).2]; omega

/-- The block index of window 1 at each point. -/
theorem ix1_1 : ∀ t : Fin grid1.N, win1_1.index t 0 = 0 ∧ win1_1.index t 1 = t.val := by decide +kernel
/-- What window 1 reads at a point. -/
theorem blk1_1 (t : Fin cfg1.N) (f : Fin 2048 → Fin 768 → ℝ) (h : V c main_v25_1 = up2 f) :
    iblk1 V c 1 t = up2 fun (r : Fin 2048) (k : Fin 128) => f r ⟨(t.val) * 128 + k.val, by have := lt1 t; omega⟩ := by
  funext i
  show V c main_v25_1 ((win1_1.rect t).emb i) = _
  rw [h]
  refine up2_at _ _ _ _ ?_ ?_
  · show win1_1.index t 0 * 2048 + 1 * (i 0).val = (i 0).val
    rw [(ix1_1 t).1]; omega
  · show win1_1.index t 1 * 128 + 1 * (i 1).val = (t.val) * 128 + (i 1).val
    rw [(ix1_1 t).2]; omega

/-- The block index of window 2 at each point. -/
theorem ix1_2 : ∀ t : Fin grid1.N, win1_2.index t 0 = 0 ∧ win1_2.index t 1 = 2 * t.val := by decide +kernel
/-- What window 2 reads at a point. -/
theorem blk1_2 (t : Fin cfg1.N) (f : Fin 2048 → Fin 1536 → ℝ) (h : V c main_v25_2 = up2 f) :
    iblk1 V c 2 t = up2 fun (r : Fin 2048) (k : Fin 128) => f r ⟨(2 * t.val) * 128 + k.val, by have := lt1 t; omega⟩ := by
  funext i
  show V c main_v25_2 ((win1_2.rect t).emb i) = _
  rw [h]
  refine up2_at _ _ _ _ ?_ ?_
  · show win1_2.index t 0 * 2048 + 1 * (i 0).val = (i 0).val
    rw [(ix1_2 t).1]; omega
  · show win1_2.index t 1 * 128 + 1 * (i 1).val = (2 * t.val) * 128 + (i 1).val
    rw [(ix1_2 t).2]; omega

/-- The block index of window 3 at each point. -/
theorem ix1_3 : ∀ t : Fin grid1.N, win1_3.index t 0 = 0 ∧ win1_3.index t 1 = 2 * t.val + 1 := by decide +kernel
/-- What window 3 reads at a point. -/
theorem blk1_3 (t : Fin cfg1.N) (f : Fin 2048 → Fin 1536 → ℝ) (h : V c main_v25_2 = up2 f) :
    iblk1 V c 3 t = up2 fun (r : Fin 2048) (k : Fin 128) => f r ⟨(2 * t.val + 1) * 128 + k.val, by have := lt1 t; omega⟩ := by
  funext i
  show V c main_v25_2 ((win1_3.rect t).emb i) = _
  rw [h]
  refine up2_at _ _ _ _ ?_ ?_
  · show win1_3.index t 0 * 2048 + 1 * (i 0).val = (i 0).val
    rw [(ix1_3 t).1]; omega
  · show win1_3.index t 1 * 128 + 1 * (i 1).val = (2 * t.val + 1) * 128 + (i 1).val
    rw [(ix1_3 t).2]; omega

/-- The block index of window 4 at each point. -/
theorem ix1_4 : ∀ t : Fin grid1.N, win1_4.index t 0 = 0 ∧ win1_4.index t 1 = t.val := by decide +kernel
/-- The scaled attention, a point's part. -/
theorem flushed1_4 (q k : Fin 2048 → Fin 768 → ℝ) (v : Fin 2048 → Fin 1536 → ℝ) (e0 : V c main_v25_0 = up2 q) (e1 : V c main_v25_1 = up2 k) (e2 : V c main_v25_2 = up2 v)
    (hd0 : ∀ h n, dn q k v h n ≠ 0) (t : Fin cfg1.N) :
    (dat1 V c).flushed 4 t = (win1_4.blk t).view.read (Elt Ideal) (up2 (heads q k v) : S2048x768.Idx → EReal) := by
  show (cfg1.win 4).cut (grid1.coords t) ((dat1 V c).after 4 t) = _
  rw [after1_4, blk1_0 V c t q e0, blk1_1 V c t k e1, blk1_2 V c t v e2, blk1_3 V c t v e2]
  have hb : out1_4 (F := Ideal) _ _ _ _ = _ := pair_out q k v t.val (lt1 t) hd0
  simp only [Nat.zero_mul, Nat.zero_add] at hb ⊢
  erw [hb]
  funext i
  show up2 _ i = up2 (heads q k v) ((win1_4.rect t).emb i)
  have h0 := lt1 t
  have h1 : (i 0).val < 2048 := (i 0).isLt
  have h2 : (i 1).val < 128 := (i 1).isLt
  rw [up2_at (heads q k v) ((win1_4.rect t).emb i) ⟨(i 0).val, by omega⟩ ⟨(t.val) * 128 + (i 1).val, by omega⟩
    (by show win1_4.index t 0 * 2048 + 1 * (i 0).val = _; rw [(ix1_4 t).1]; simp only [Nat.one_mul, Nat.zero_mul, Nat.zero_add])
    (by show win1_4.index t 1 * 128 + 1 * (i 1).val = _; rw [(ix1_4 t).2]; simp only [Nat.one_mul, Nat.zero_mul, Nat.zero_add])]
  rfl

/-- An index of the array is in a point's block when its coordinates are. -/
theorem mem1_4 (t : Fin cfg1.N) (i : S2048x768.Idx)
    (h0 : 0 * 2048 ≤ (i 0 : Nat) ∧ (i 0 : Nat) < 0 * 2048 + 2048) (h1 : t.val * 128 ≤ (i 1 : Nat) ∧ (i 1 : Nat) < t.val * 128 + 128) :
    i ∈ ((cfg1.win 4).blk t).view.set := by
  show i ∈ ((View.whole main_v26).slice (win1_4.rect t)).set
  rw [View.set_slice_whole, Rect.mem_set_unit]
  intro a
  match a with
  | ⟨0, _⟩ => show win1_4.index t 0 * 2048 ≤ (i 0 : Nat) ∧ (i 0 : Nat) < win1_4.index t 0 * 2048 + 2048
              rw [(ix1_4 t).1]; exact h0
  | ⟨1, _⟩ => show win1_4.index t 1 * 128 ≤ (i 1 : Nat) ∧ (i 1 : Nat) < win1_4.index t 1 * 128 + 128
              rw [(ix1_4 t).2]; exact h1

/-- The points' blocks cover the array. -/
theorem cov1_4 (i : S2048x768.Idx) : ∃ t : Fin cfg1.N, (cfg1.win 4).flush t = true ∧ i ∈ ((cfg1.win 4).blk t).view.set := by
  have h0 : (i 0 : Nat) < 2048 := (i 0).isLt
  have h1 : (i 1 : Nat) < 768 := (i 1).isLt
  have hN := N1
  refine ⟨⟨(i 1 : Nat) / 128, by omega⟩, flush1_4 _, mem1_4 _ i ?_ ?_⟩
  · dsimp only; omega
  · dsimp only; omega

/-- The scaled attention. -/
theorem arr_o (q k : Fin 2048 → Fin 768 → ℝ) (v : Fin 2048 → Fin 1536 → ℝ) (e0 : V c main_v25_0 = up2 q) (e1 : V c main_v25_1 = up2 k) (e2 : V c main_v25_2 = up2 v)
    (hd0 : ∀ h n, dn q k v h n ≠ 0) :
    (dat1 V c).arrAt 4 cfg1.N = (up2 (heads q k v) : S2048x768.Idx → EReal) :=
  (dat1 V c).arrAt_eq_of_cover 4 _ (fun t _ => flushed1_4 V c q k v e0 e1 e2 hd0 t) cov1_4

end Cert.Block.Kern

end
-- ==== Proof.KHost.lean ====
/- What the host's stretches hand to the three regions, on real arguments. -/
module

public import proofs.«01_k».proof.Proof.Spec
public import proofs.«01_k».proof.Proof.Gen.KernelIdeal.Launch
public import Idealize.ShloMosaic.Lib.StableHlo.ReadAt

@[expose] public section

set_option maxRecDepth 16384

noncomputable section

namespace Cert.Block.Kern

open Idealize.ShloMosaic Idealize.ShloMosaic.TcCoe Cert.KernelIdeal Cert.KernelIdeal.Gen

variable (V : Valuation τ sig (Elt Ideal))

/-- The tokens as rows. -/
theorem host_v0 (x : Fin 2048 → Fin 768 → ℝ) (h : V (Proc.devRef .tc main_arg0) = up3 (n := 1) fun _ => x) :
    StableHlo.after hostOps0 V (Proc.devRef .tc main_v0) = (up2 x : S2048x768.Idx → EReal) := by
  funext j; revert j; intro (j : S2048x768.Idx); idx_vars j
  after_reads_at
  rw [h]
  rfl

/-- The first norm's gain as a row. -/
theorem host_v22 (g : Fin 768 → ℝ) (h : V (Proc.devRef .tc main_arg1) = up1 g) :
    StableHlo.after hostOps0 V (Proc.devRef .tc main_v22) = (up2 (n := 1) fun _ => g : S1x768.Idx → EReal) := by
  funext j; revert j; intro (j : S1x768.Idx); idx_vars j
  after_reads_at
  rw [h]
  rfl

/-- The joint weight: the queries' and keys' columns as given, each head's values scaled by 32 and widened by zeros. -/
def jw (w : Fin 768 → Fin 2304 → ℝ) : Fin 768 → Fin 3072 → ℝ := fun k j =>
  if h : j.val < 1536 then w k ⟨j.val, by omega⟩
  else if (j.val - 1536) % 128 < 64 then w k ⟨1536 + ((j.val - 1536) / 128 * 64 + (j.val - 1536) % 128 % 64), by omega⟩ * 32 else 0

/-- The joint bias: the same with 32 in place of the zeros. -/
def jb (w : Fin 2304 → ℝ) : Fin 3072 → ℝ := fun j =>
  if h : j.val < 1536 then w ⟨j.val, by omega⟩
  else if (j.val - 1536) % 128 < 64 then w ⟨1536 + ((j.val - 1536) / 128 * 64 + (j.val - 1536) % 128 % 64), by omega⟩ * 32 else 32

/-- The query columns of the joint weights, at an entry. -/
theorem part_v1 (w : Fin 768 → Fin 2304 → ℝ) (h : V (Proc.devRef .tc main_arg3) = up2 w) (a : Fin 768) (b : Fin 768) :
    StableHlo.upto hostOps0 V 12 (Proc.devRef .tc main_v1) (ix2 a b : S768x768.Idx) = ((w a ⟨b.val, by omega⟩ : ℝ) : EReal) := by
  after_reads_at
  rw [h]
  rfl

/-- The key columns, at an entry. -/
theorem part_v2 (w : Fin 768 → Fin 2304 → ℝ) (h : V (Proc.devRef .tc main_arg3) = up2 w) (a : Fin 768) (b : Fin 768) :
    StableHlo.upto hostOps0 V 12 (Proc.devRef .tc main_v2) (ix2 a b : S768x768.Idx) = ((w a ⟨768 + b.val, by omega⟩ : ℝ) : EReal) := by
  after_reads_at
  rw [h]
  rfl

/-- The value columns times 32, cut into heads, at an entry. -/
theorem part_v6 (w : Fin 768 → Fin 2304 → ℝ) (h : V (Proc.devRef .tc main_arg3) = up2 w) (a : Fin 768) (b : Fin 12) (d : Fin 64) :
    StableHlo.upto hostOps0 V 10 (Proc.devRef .tc main_v6) (ix3 a b d : S768x12x64.Idx) =
      ((w a ⟨1536 + (b.val * 64 + d.val), by omega⟩ * 32 : ℝ) : EReal) := by
  after_reads_at
  rw [h, EReal.coe_mul, ← word_32]
  rfl

/-- The zeros set beside each head's value columns. -/
theorem part_v7 (a : Fin 768) (b : Fin 12) (d : Fin 64) :
    StableHlo.upto hostOps0 V 10 (Proc.devRef .tc main_v7) (ix3 a b d : S768x12x64.Idx) = ((0 : ℝ) : EReal) := by
  after_reads_at
  exact EReal.coe_zero.symm

/-- The widened value columns: a head's 64 columns times 32, then 64 zeros. -/
theorem part_v9 (w : Fin 768 → Fin 2304 → ℝ) (h : V (Proc.devRef .tc main_arg3) = up2 w) (a : Fin 768) (b : Fin 1536) :
    StableHlo.upto hostOps0 V 12 (Proc.devRef .tc main_v9) (ix2 a b : S768x1536.Idx) =
      ((if b.val % 128 < 64 then w a ⟨1536 + (b.val / 128 * 64 + b.val % 128 % 64), by omega⟩ * 32 else 0 : ℝ) : EReal) := by
  after_reads_at
  by_cases hb : b.val % 128 < 64
  · rw [dif_pos hb, if_pos hb]
    refine (part_v6 V w h a ⟨b.val / 128, by omega⟩ ⟨b.val % 128, hb⟩).trans ?_
    have e : (⟨1536 + (b.val / 128 * 64 + b.val % 128), by omega⟩ : Fin 2304) = ⟨1536 + (b.val / 128 * 64 + b.val % 128 % 64), by omega⟩ :=
      Fin.ext (by show 1536 + (b.val / 128 * 64 + b.val % 128) = 1536 + (b.val / 128 * 64 + b.val % 128 % 64); omega)
    exact congrArg (fun i => ((w a i * 32 : ℝ) : EReal)) e
  · rw [dif_neg hb, if_neg hb]
    exact part_v7 V a ⟨b.val / 128, by omega⟩ ⟨b.val % 128 - 64, by omega⟩

/-- The joint weight as the first region finds it. -/
theorem host_v11 (w : Fin 768 → Fin 2304 → ℝ) (h : V (Proc.devRef .tc main_arg3) = up2 w) :
    StableHlo.after hostOps0 V (Proc.devRef .tc main_v11) = (up2 (jw w) : S768x3072.Idx → EReal) := by
  funext j; revert j; intro (j : S768x3072.Idx); idx_vars j
  after_reads_at
  show _ = ((jw w j0 j1 : ℝ) : EReal)
  unfold jw
  by_cases h1 : j1.val < 768
  · rw [dif_pos h1, dif_pos (by omega)]
    exact part_v1 V w h j0 ⟨j1.val, h1⟩
  · rw [dif_neg h1]
    by_cases h2 : j1.val - 768 < 768
    · rw [dif_pos h2, dif_pos (by omega)]
      refine (part_v2 V w h j0 ⟨j1.val - 768, h2⟩).trans ?_
      exact congrArg (fun i => ((w j0 i : ℝ) : EReal)) (Fin.ext (by show 768 + (j1.val - 768) = j1.val; omega))
    · rw [dif_neg h2, dif_neg (by omega)]
      refine (part_v9 V w h j0 ⟨j1.val - 768 - 768, by omega⟩).trans ?_
      have e : j1.val - 768 - 768 = j1.val - 1536 := by omega
      simp only [e]

/-- The first norm's shift as a row. -/
theorem host_v23 (g : Fin 768 → ℝ) (h : V (Proc.devRef .tc main_arg2) = up1 g) :
    StableHlo.after hostOps0 V (Proc.devRef .tc main_v23) = (up2 (n := 1) fun _ => g : S1x768.Idx → EReal) := by
  funext j; revert j; intro (j : S1x768.Idx); idx_vars j
  after_reads_at
  rw [h]
  rfl

/-- The query part of the joint bias, at an entry. -/
theorem part_v12 (w : Fin 2304 → ℝ) (h : V (Proc.devRef .tc main_arg4) = up1 w) (b : Fin 768) :
    StableHlo.upto hostOps0 V 25 (Proc.devRef .tc main_v12) (ix1 b : S768.Idx) = ((w ⟨b.val, by omega⟩ : ℝ) : EReal) := by
  after_reads_at
  rw [h]
  rfl

/-- The key part. -/
theorem part_v13 (w : Fin 2304 → ℝ) (h : V (Proc.devRef .tc main_arg4) = up1 w) (b : Fin 768) :
    StableHlo.upto hostOps0 V 25 (Proc.devRef .tc main_v13) (ix1 b : S768.Idx) = ((w ⟨768 + b.val, by omega⟩ : ℝ) : EReal) := by
  after_reads_at
  rw [h]
  rfl

/-- The value part times 32, cut into heads. -/
theorem part_v17 (w : Fin 2304 → ℝ) (h : V (Proc.devRef .tc main_arg4) = up1 w) (b : Fin 12) (d : Fin 64) :
    StableHlo.upto hostOps0 V 23 (Proc.devRef .tc main_v17) (ix2 b d : S12x64.Idx) =
      ((w ⟨1536 + (b.val * 64 + d.val), by omega⟩ * 32 : ℝ) : EReal) := by
  after_reads_at
  rw [h, EReal.coe_mul, ← word_32]
  rfl

/-- The constant 32 set beside each head's value bias. -/
theorem part_v18 (b : Fin 12) (d : Fin 64) :
    StableHlo.upto hostOps0 V 23 (Proc.devRef .tc main_v18) (ix2 b d : S12x64.Idx) = ((32 : ℝ) : EReal) := by
  after_reads_at
  exact word_32

/-- The widened value bias: a head's 64 entries times 32, then 64 times 32 itself. -/
theorem part_v20 (w : Fin 2304 → ℝ) (h : V (Proc.devRef .tc main_arg4) = up1 w) (b : Fin 1536) :
    StableHlo.upto hostOps0 V 25 (Proc.devRef .tc main_v20) (ix1 b : S1536.Idx) =
      ((if b.val % 128 < 64 then w ⟨1536 + (b.val / 128 * 64 + b.val % 128 % 64), by omega⟩ * 32 else 32 : ℝ) : EReal) := by
  after_reads_at
  by_cases hb : b.val % 128 < 64
  · rw [dif_pos hb, if_pos hb]
    refine (part_v17 V w h ⟨b.val / 128, by omega⟩ ⟨b.val % 128, hb⟩).trans ?_
    have e : (⟨1536 + (b.val / 128 * 64 + b.val % 128), by omega⟩ : Fin 2304) = ⟨1536 + (b.val / 128 * 64 + b.val % 128 % 64), by omega⟩ :=
      Fin.ext (by show 1536 + (b.val / 128 * 64 + b.val % 128) = 1536 + (b.val / 128 * 64 + b.val % 128 % 64); omega)
    exact congrArg (fun i => ((w i * 32 : ℝ) : EReal)) e
  · rw [dif_neg hb, if_neg hb]
    exact part_v18 V ⟨b.val / 128, by omega⟩ ⟨b.val % 128 - 64, by omega⟩

/-- The joint bias as the first region finds it. -/
theorem host_v24 (w : Fin 2304 → ℝ) (h : V (Proc.devRef .tc main_arg4) = up1 w) :
    StableHlo.after hostOps0 V (Proc.devRef .tc main_v24) = (up2 (n := 1) fun _ => jb w : S1x3072.Idx → EReal) := by
  funext j; revert j; intro (j : S1x3072.Idx); idx_vars j
  after_reads_at
  show _ = ((jb w j1 : ℝ) : EReal)
  unfold jb
  by_cases h1 : j1.val < 768
  · rw [dif_pos h1, dif_pos (by omega)]
    exact part_v12 V w h ⟨j1.val, h1⟩
  · rw [dif_neg h1]
    by_cases h2 : j1.val - 768 < 768
    · rw [dif_pos h2, dif_pos (by omega)]
      refine (part_v13 V w h ⟨j1.val - 768, h2⟩).trans ?_
      exact congrArg (fun i => ((w i : ℝ) : EReal)) (Fin.ext (by show 768 + (j1.val - 768) = j1.val; omega))
    · rw [dif_neg h2, dif_neg (by omega)]
      refine (part_v20 V w h ⟨j1.val - 768 - 768, by omega⟩).trans ?_
      have e : j1.val - 768 - 768 = j1.val - 1536 := by omega
      simp only [e]

/-- The attention's projection times 32. -/
theorem host_v31 (w : Fin 768 → Fin 768 → ℝ) (h : V (Proc.devRef .tc main_arg5) = up2 w) :
    StableHlo.after hostOps2 V (Proc.devRef .tc main_v31) = (up2 fun a b => w a b * 32 : S768x768.Idx → EReal) := by
  funext j; revert j; intro (j : S768x768.Idx); idx_vars j
  after_reads_at
  rw [h]
  show _ = ((w j0 j1 * 32 : ℝ) : EReal)
  rw [EReal.coe_mul, ← word_32]
  rfl

/-- The first layer scale as a row. -/
theorem host_v32 (g : Fin 768 → ℝ) (h : V (Proc.devRef .tc main_arg7) = up1 g) :
    StableHlo.after hostOps2 V (Proc.devRef .tc main_v32) = (up2 (n := 1) fun _ => g : S1x768.Idx → EReal) := by
  funext j; revert j; intro (j : S1x768.Idx); idx_vars j
  after_reads_at
  rw [h]
  rfl

/-- The projection's bias times the first layer scale, as a row. -/
theorem host_v33 (g s : Fin 768 → ℝ) (h : V (Proc.devRef .tc main_arg6) = up1 g) (h' : V (Proc.devRef .tc main_arg7) = up1 s) :
    StableHlo.after hostOps2 V (Proc.devRef .tc main_v33) = (up2 (n := 1) fun _ k => g k * s k : S1x768.Idx → EReal) := by
  funext j; revert j; intro (j : S1x768.Idx); idx_vars j
  after_reads_at
  rw [h, h']
  show _ = ((g j1 * s j1 : ℝ) : EReal)
  rw [EReal.coe_mul]
  rfl

/-- The second norm's gain as a row. -/
theorem host_v34 (g : Fin 768 → ℝ) (h : V (Proc.devRef .tc main_arg8) = up1 g) :
    StableHlo.after hostOps2 V (Proc.devRef .tc main_v34) = (up2 (n := 1) fun _ => g : S1x768.Idx → EReal) := by
  funext j; revert j; intro (j : S1x768.Idx); idx_vars j
  after_reads_at
  rw [h]
  rfl

/-- The second norm's shift as a row. -/
theorem host_v35 (g : Fin 768 → ℝ) (h : V (Proc.devRef .tc main_arg9) = up1 g) :
    StableHlo.after hostOps2 V (Proc.devRef .tc main_v35) = (up2 (n := 1) fun _ => g : S1x768.Idx → EReal) := by
  funext j; revert j; intro (j : S1x768.Idx); idx_vars j
  after_reads_at
  rw [h]
  rfl

/-- The first layer's weights times 32. -/
theorem host_v38 (w : Fin 768 → Fin 3072 → ℝ) (h : V (Proc.devRef .tc main_arg10) = up2 w) :
    StableHlo.after hostOps2 V (Proc.devRef .tc main_v38) = (up2 fun a b => w a b * 32 : S768x3072.Idx → EReal) := by
  funext j; revert j; intro (j : S768x3072.Idx); idx_vars j
  after_reads_at
  rw [h]
  show _ = ((w j0 j1 * 32 : ℝ) : EReal)
  rw [EReal.coe_mul, ← word_32]
  rfl

/-- The second layer's weights times 32. -/
theorem host_v44 (w : Fin 3072 → Fin 768 → ℝ) (h : V (Proc.devRef .tc main_arg12) = up2 w) :
    StableHlo.after hostOps2 V (Proc.devRef .tc main_v44) = (up2 fun a b => w a b * 32 : S3072x768.Idx → EReal) := by
  funext j; revert j; intro (j : S3072x768.Idx); idx_vars j
  after_reads_at
  rw [h]
  show _ = ((w j0 j1 * 32 : ℝ) : EReal)
  rw [EReal.coe_mul, ← word_32]
  rfl

/-- The second layer scale as a row. -/
theorem host_v45 (g : Fin 768 → ℝ) (h : V (Proc.devRef .tc main_arg14) = up1 g) :
    StableHlo.after hostOps2 V (Proc.devRef .tc main_v45) = (up2 (n := 1) fun _ => g : S1x768.Idx → EReal) := by
  funext j; revert j; intro (j : S1x768.Idx); idx_vars j
  after_reads_at
  rw [h]
  rfl

/-- The second layer's bias times the second layer scale, as a row. -/
theorem host_v46 (g s : Fin 768 → ℝ) (h : V (Proc.devRef .tc main_arg13) = up1 g) (h' : V (Proc.devRef .tc main_arg14) = up1 s) :
    StableHlo.after hostOps2 V (Proc.devRef .tc main_v46) = (up2 (n := 1) fun _ k => g k * s k : S1x768.Idx → EReal) := by
  funext j; revert j; intro (j : S1x768.Idx); idx_vars j
  after_reads_at
  rw [h, h']
  show _ = ((g j1 * s j1 : ℝ) : EReal)
  rw [EReal.coe_mul]
  rfl

/-- The first layer's bias times 32, as a row. -/
theorem host_v41 (w : Fin 3072 → ℝ) (h : V (Proc.devRef .tc main_arg11) = up1 w) :
    StableHlo.after hostOps2 V (Proc.devRef .tc main_v41) = (up2 (n := 1) fun _ b => w b * 32 : S1x3072.Idx → EReal) := by
  funext j; revert j; intro (j : S1x3072.Idx); idx_vars j
  after_reads_at
  rw [h]
  show _ = ((w j1 * 32 : ℝ) : EReal)
  rw [EReal.coe_mul, ← word_32]
  rfl

/-- The result's shape restored. -/
theorem host_v48 (f : Fin 2048 → Fin 768 → ℝ) (h : V (Proc.devRef .tc main_v47) = (up2 f : S2048x768.Idx → EReal)) :
    StableHlo.after hostOps3 V (Proc.devRef .tc main_v48) = (up3 (n := 1) fun _ => f : S1x2048x768.Idx → EReal) := by
  funext j; revert j; intro (j : S1x2048x768.Idx); idx_vars j
  after_reads_at
  rw [h]
  rfl

end Cert.Block.Kern

end
-- ==== Proof.KMath.lean ====
/- The kernel's real value is the specification's: the powers of two and the change of the exponential's base cancel. -/
module

public import proofs.«01_k».proof.Proof.Reg1
public import proofs.«01_k».proof.Proof.KOut2
public import proofs.«01_k».proof.Proof.KHost

@[expose] public section

noncomputable section

namespace Cert.Block.Kern

variable (A : Args)

/-- The joint projection of the tokens. -/
def kJ : Fin 2048 → Fin 3072 → ℝ := jp A.x A.g1 A.b1 (jw A.W) (jb A.B)
/-- The first region's scaled queries. -/
def kQ : Fin 2048 → Fin 768 → ℝ := fun n k => kJ A n ⟨k.val, by omega⟩ * qs
/-- Its keys. -/
def kK : Fin 2048 → Fin 768 → ℝ := fun n k => kJ A n ⟨768 + k.val, by omega⟩
/-- Its widened values. -/
def kV : Fin 2048 → Fin 1536 → ℝ := fun n k => kJ A n ⟨1536 + k.val, by omega⟩
/-- The rows after the first residual, as the third region forms them. -/
def kMid : Fin 2048 → Fin 768 → ℝ :=
  x1R (heads (kQ A) (kK A) (kV A)) A.x (fun a b => A.pw a b * 32) A.s1 (fun k => A.pb k * A.s1 k)
/-- The kernel's output rows. -/
def kOut : Fin 2048 → Fin 768 → ℝ :=
  ffR (kMid A) A.g2 A.b2 (fun a b => A.w1 a b * 32) (fun b => A.c1 b * 32) (fun a b => A.w2 a b * 32) A.s2 (fun k => A.c2 k * A.s2 k)

/-- The first 1536 columns are the reference's. -/
theorem kJ_low (n : Fin 2048) (j : Fin 3072) (i : Fin 2304) (h : j.val < 1536) (e : j.val = i.val) : kJ A n j = A.qkv n i := by
  have e1 : ∀ k, jw A.W k j = A.W k i := fun k => by
    unfold jw; rw [dif_pos h]; exact congrArg (A.W k) (Fin.ext e)
  have e2 : jb A.B j = A.B i := by
    unfold jb; rw [dif_pos h]; exact congrArg A.B (Fin.ext e)
  unfold kJ jp Args.qkv
  simp only [e1, e2]

/-- A value column is 32 times the reference's. -/
theorem kJ_val (n : Fin 2048) (h : Fin 12) (d : Fin 64) (j : Fin 3072) (e : j.val = 1536 + (h.val * 128 + d.val)) :
    kJ A n j = 32 * A.qkv n (col 2 h d) := by
  have hj : ¬ j.val < 1536 := by omega
  have hm : (j.val - 1536) % 128 < 64 := by omega
  have hi : (⟨1536 + ((j.val - 1536) / 128 * 64 + (j.val - 1536) % 128 % 64), by omega⟩ : Fin 2304) = col 2 h d :=
    Fin.ext (by show 1536 + ((j.val - 1536) / 128 * 64 + (j.val - 1536) % 128 % 64) = (2 * 12 + h.val) * 64 + d.val; omega)
  have e1 : ∀ k, jw A.W k j = A.W k (col 2 h d) * 32 := fun k => by
    unfold jw; rw [dif_neg hj, if_pos hm, hi]
  have e2 : jb A.B j = A.B (col 2 h d) * 32 := by
    unfold jb; rw [dif_neg hj, if_pos hm, hi]
  unfold kJ jp Args.qkv
  simp only [e1, e2]
  rw [mul_add, Finset.mul_sum]
  refine congrArg₂ (· + ·) (Finset.sum_congr rfl fun k _ => by ring) (by ring)

/-- The column after a head's values is 32 on every row. -/
theorem kJ_one (n : Fin 2048) (h : Fin 12) (j : Fin 3072) (e : j.val = 1536 + (h.val * 128 + 64)) : kJ A n j = 32 := by
  have hj : ¬ j.val < 1536 := by omega
  have hm : ¬ (j.val - 1536) % 128 < 64 := by omega
  have e1 : ∀ k, jw A.W k j = 0 := fun k => by unfold jw; rw [dif_neg hj, if_neg hm]
  have e2 : jb A.B j = 32 := by unfold jb; rw [dif_neg hj, if_neg hm]
  unfold kJ jp
  simp only [e1, e2, mul_zero, Finset.sum_const_zero, zero_add]

/-- A head's scaled queries from the reference's. -/
theorem hq_q (h : Fin 12) (n : Fin 2048) (d : Fin 64) : hq (kQ A) h n d = A.qkv n (col 0 h d) * qs := by
  unfold hq kQ
  rw [kJ_low A n _ (col 0 h d) (by show h.val * 64 + d.val < 1536; omega) (by show h.val * 64 + d.val = (0 * 12 + h.val) * 64 + d.val; omega)]

/-- A head's keys are the reference's. -/
theorem hq_k (h : Fin 12) (n : Fin 2048) (d : Fin 64) : hq (kK A) h n d = A.qkv n (col 1 h d) :=
  kJ_low A n _ (col 1 h d) (by show 768 + (h.val * 64 + d.val) < 1536; omega) (by show 768 + (h.val * 64 + d.val) = (1 * 12 + h.val) * 64 + d.val; omega)

/-- A head's first 64 widened values are 32 times the reference's. -/
theorem hv_val (h : Fin 12) (n : Fin 2048) (d : Fin 64) : hv (kV A) h n ⟨d.val, by omega⟩ = 32 * A.qkv n (col 2 h d) :=
  kJ_val A n h d _ rfl

/-- The next one is 32. -/
theorem hv_one (h : Fin 12) (n : Fin 2048) : hv (kV A) h n 64 = 32 := kJ_one A n h _ rfl

/-- The kernel's power of two is the reference's exponential of the score. -/
theorem pow_score (h : Fin 12) (n m : Fin 2048) :
    Real.rpow 2 (∑ d, hq (kQ A) h n d * hq (kK A) h m d) = Real.exp (A.score h n m) := by
  simp only [hq_q, hq_k]
  show (2 : ℝ) ^ (_ : ℝ) = _
  rw [Real.rpow_def_of_pos (by norm_num)]
  refine congrArg Real.exp ?_
  unfold Args.score qs
  have hl : Real.log 2 ≠ 0 := (Real.log_pos (by norm_num)).ne'
  rw [Finset.mul_sum, Finset.sum_mul]
  refine Finset.sum_congr rfl fun d _ => ?_
  field_simp

/-- The kernel's sum of exponentials. -/
theorem dn_eq (h : Fin 12) (n : Fin 2048) : dn (kQ A) (kK A) (kV A) h n = (∑ m, Real.exp (A.score h n m)) * 32 := by
  unfold dn
  simp only [pow_score, hv_one]
  rw [Finset.sum_mul]

/-- A softmax's denominator is positive. -/
theorem sum_exp_pos (h : Fin 12) (n : Fin 2048) : 0 < ∑ m, Real.exp (A.score h n m) :=
  Finset.sum_pos (fun _ _ => Real.exp_pos _) Finset.univ_nonempty

/-- The kernel's denominator does not vanish. -/
theorem dn_ne (h : Fin 12) (n : Fin 2048) : dn (kQ A) (kK A) (kV A) h n ≠ 0 := by
  rw [dn_eq]; exact (mul_pos (sum_exp_pos A h n) (by norm_num)).ne'

/-- The second region's output is 16 times the attention. -/
theorem heads_eq (n : Fin 2048) (c : Fin 768) : heads (kQ A) (kK A) (kV A) n c = 16 * A.att (hd c) n (co c) := by
  unfold heads headv
  have hs := (sum_exp_pos A (hd c) n).ne'
  simp only [pow_score, hv_val, hv_one]
  unfold Args.att
  rw [← Finset.sum_mul, Finset.sum_mul, Finset.mul_sum]
  refine Finset.sum_congr rfl fun m _ => ?_
  field_simp

/-- The rows after the first residual are the specification's. -/
theorem kMid_eq (n : Fin 2048) (k : Fin 768) : kMid A n k = A.mid n k := by
  unfold kMid x1R Args.mid
  simp only [heads_eq]
  rw [show (∑ i, 16 * A.att (hd i) n (co i) * (A.pw i k * 32)) = 512 * ∑ c, A.att (hd c) n (co c) * A.pw c k by
    rw [Finset.mul_sum]; exact Finset.sum_congr rfl fun _ _ => by ring]
  ring

/-- The hidden layer the kernel forms is 32 times the reference's. -/
theorem jp_hid (n : Fin 2048) (j : Fin 3072) :
    jp (kMid A) A.g2 A.b2 (fun a b => A.w1 a b * 32) (fun b => A.c1 b * 32) n j = 32 * A.hid n j := by
  have e : kMid A n = A.mid n := funext fun k => kMid_eq A n k
  unfold jp Args.hid
  rw [e, mul_add, Finset.mul_sum]
  exact congrArg₂ (· + ·) (Finset.sum_congr rfl fun k _ => by ring) (by ring)

/-- The kernel's output rows are the specification's. -/
theorem kOut_eq (n : Fin 2048) (k : Fin 768) : kOut A n k = A.res n k := by
  unfold kOut ffR Args.res
  simp only [jp_hid]
  have he : ∀ u : ℝ, 32 * u * es = u / Real.sqrt 2 := fun u => by unfold es; rw [div_eq_mul_inv]; ring
  simp only [he]
  rw [kMid_eq, show (∑ i, 1 / 8 * (32 * A.hid n i) * (1 + erfR (A.hid n i / Real.sqrt 2)) * (A.w2 i k * 32)) = 256 * ∑ j, A.act n j * A.w2 j k by
    rw [Finset.mul_sum]; exact Finset.sum_congr rfl fun _ _ => by unfold Args.act; ring]
  ring

end Cert.Block.Kern

end
-- ==== Proof.KValue.lean ====
/- The kernel's result array at real arguments: the stretches and the three regions, chained. -/
module

public import proofs.«01_k».proof.Proof.Reg0
public import proofs.«01_k».proof.Proof.Reg2
public import proofs.«01_k».proof.Proof.KMath

@[expose] public section

noncomputable section

namespace Cert.Block.Kern

open Idealize.ShloMosaic Idealize.ShloMosaic.TcCoe Cert.KernelIdeal Cert.KernelIdeal.Gen

variable (m : (ℓ : Loc nD τ sig) → Buf (Elt Ideal) ℓ) (ρ : Dev nD → PrngReg) (c : Dev nD) (A : Args)

/-- The argument arrays of a device hold the real arguments `A`. -/
structure Holds : Prop where
  h0 : m ((c : Thread nD τ).loc main_arg0) = (up3 (n := 1) fun _ => A.x)
  h1 : m ((c : Thread nD τ).loc main_arg1) = up1 A.g1
  h2 : m ((c : Thread nD τ).loc main_arg2) = up1 A.b1
  h3 : m ((c : Thread nD τ).loc main_arg3) = up2 A.W
  h4 : m ((c : Thread nD τ).loc main_arg4) = up1 A.B
  h5 : m ((c : Thread nD τ).loc main_arg5) = up2 A.pw
  h6 : m ((c : Thread nD τ).loc main_arg6) = up1 A.pb
  h7 : m ((c : Thread nD τ).loc main_arg7) = up1 A.s1
  h8 : m ((c : Thread nD τ).loc main_arg8) = up1 A.g2
  h9 : m ((c : Thread nD τ).loc main_arg9) = up1 A.b2
  h10 : m ((c : Thread nD τ).loc main_arg10) = up2 A.w1
  h11 : m ((c : Thread nD τ).loc main_arg11) = up1 A.c1
  h12 : m ((c : Thread nD τ).loc main_arg12) = up2 A.w2
  h13 : m ((c : Thread nD τ).loc main_arg13) = up1 A.c2
  h14 : m ((c : Thread nD τ).loc main_arg14) = up1 A.s2

variable (H : Holds m c A)
include H

/-- The flattened tokens when the first region is entered. -/
theorem at1_v0 : W1 m ρ c (Proc.devRef .tc main_v0) = (up2 A.x : S2048x768.Idx → EReal) := host_v0 (W0 m ρ c) A.x H.h0
/-- The first norm's gain there. -/
theorem at1_v22 : W1 m ρ c (Proc.devRef .tc main_v22) = (up2 (n := 1) fun _ => A.g1 : S1x768.Idx → EReal) := host_v22 (W0 m ρ c) A.g1 H.h1
/-- The first norm's shift there. -/
theorem at1_v23 : W1 m ρ c (Proc.devRef .tc main_v23) = (up2 (n := 1) fun _ => A.b1 : S1x768.Idx → EReal) := host_v23 (W0 m ρ c) A.b1 H.h2
/-- The joint weights there. -/
theorem at1_v11 : W1 m ρ c (Proc.devRef .tc main_v11) = (up2 (jw A.W) : S768x3072.Idx → EReal) := host_v11 (W0 m ρ c) A.W H.h3
/-- The joint bias there. -/
theorem at1_v24 : W1 m ρ c (Proc.devRef .tc main_v24) = (up2 (n := 1) fun _ => jb A.B : S1x3072.Idx → EReal) := host_v24 (W0 m ρ c) A.B H.h4

/-- The first region leaves the scaled queries. -/
theorem at2_q : W2 m ρ c (Proc.devRef .tc main_v25_0) = (up2 (kQ A) : S2048x768.Idx → EReal) :=
  (W2_arr m ρ c 5).trans (arr_q (V1 m ρ) c A.x A.g1 A.b1 (jw A.W) (jb A.B) (at1_v0 m ρ c A H) (at1_v22 m ρ c A H) (at1_v23 m ρ c A H)
    (at1_v11 m ρ c A H) (at1_v24 m ρ c A H))
/-- The first region leaves the keys. -/
theorem at2_k : W2 m ρ c (Proc.devRef .tc main_v25_1) = (up2 (kK A) : S2048x768.Idx → EReal) :=
  (W2_arr m ρ c 6).trans (arr_k (V1 m ρ) c A.x A.g1 A.b1 (jw A.W) (jb A.B) (at1_v0 m ρ c A H) (at1_v22 m ρ c A H) (at1_v23 m ρ c A H)
    (at1_v11 m ρ c A H) (at1_v24 m ρ c A H))
/-- The first region leaves the widened values. -/
theorem at2_v : W2 m ρ c (Proc.devRef .tc main_v25_2) = (up2 (kV A) : S2048x1536.Idx → EReal) :=
  (W2_arr m ρ c 7).trans (arr_v (V1 m ρ) c A.x A.g1 A.b1 (jw A.W) (jb A.B) (at1_v0 m ρ c A H) (at1_v22 m ρ c A H) (at1_v23 m ρ c A H)
    (at1_v11 m ρ c A H) (at1_v24 m ρ c A H))
/-- The second region leaves the heads' outputs. -/
theorem at3_o : W3 m ρ c (Proc.devRef .tc main_v26) = (up2 (heads (kQ A) (kK A) (kV A)) : S2048x768.Idx → EReal) :=
  (W3_arr m ρ c 4).trans (arr_o (V2 m ρ) c (kQ A) (kK A) (kV A) (at2_q m ρ c A H) (at2_k m ρ c A H) (at2_v m ρ c A H) (dn_ne A))
/-- The heads' outputs are still there when the third region is entered. -/
theorem at4_o : W4 m ρ c (Proc.devRef .tc main_v26) = (up2 (heads (kQ A) (kK A) (kV A)) : S2048x768.Idx → EReal) :=
  (W4_of m ρ c main_v26 (by decide)).trans (at3_o m ρ c A H)
/-- So are the tokens. -/
theorem at4_v0 : W4 m ρ c (Proc.devRef .tc main_v0) = (up2 A.x : S2048x768.Idx → EReal) :=
  (W4_of m ρ c main_v0 (by decide)).trans ((W3_of m ρ c main_v0 (by decide)).trans
    ((W2_of m ρ c main_v0 (by decide)).trans (at1_v0 m ρ c A H)))

/-- The third region leaves the kernel's output rows. -/
theorem at5_out : W5 m ρ c (Proc.devRef .tc main_v47) = (up2 (kOut A) : S2048x768.Idx → EReal) := by
  have a : ∀ r : Ref sig .tc, r ∈ argRefs → W3 m ρ c (Proc.devRef .tc r) = m ((c : Thread nD τ).loc r) := W3_args m ρ c
  exact (W5_arr m ρ c 12).trans (arr_out (V4 m ρ) c _ _ _ _ _ _ _ _ _ _ _ _ (at4_o m ρ c A H)
    (host_v31 (W3 m ρ c) A.pw ((a main_arg5 (by decide)).trans H.h5)) (at4_v0 m ρ c A H)
    (host_v32 (W3 m ρ c) A.s1 ((a main_arg7 (by decide)).trans H.h7))
    (host_v33 (W3 m ρ c) A.pb A.s1 ((a main_arg6 (by decide)).trans H.h6) ((a main_arg7 (by decide)).trans H.h7))
    (host_v34 (W3 m ρ c) A.g2 ((a main_arg8 (by decide)).trans H.h8))
    (host_v35 (W3 m ρ c) A.b2 ((a main_arg9 (by decide)).trans H.h9))
    (host_v38 (W3 m ρ c) A.w1 ((a main_arg10 (by decide)).trans H.h10))
    (host_v41 (W3 m ρ c) A.c1 ((a main_arg11 (by decide)).trans H.h11))
    (host_v44 (W3 m ρ c) A.w2 ((a main_arg12 (by decide)).trans H.h12))
    (host_v45 (W3 m ρ c) A.s2 ((a main_arg14 (by decide)).trans H.h14))
    (host_v46 (W3 m ρ c) A.c2 A.s2 ((a main_arg13 (by decide)).trans H.h13) ((a main_arg14 (by decide)).trans H.h14)))

/-- The kernel's result array is the specification's block. -/
theorem at6_out : W6 m ρ c (Proc.devRef .tc main_v48) = (up3 (n := 1) fun _ => A.res : S1x2048x768.Idx → EReal) := by
  rw [show A.res = kOut A from (funext fun n => funext fun k => kOut_eq A n k).symm]
  exact host_v48 (W5 m ρ c) (kOut A) (at5_out m ρ c A H)

end Cert.Block.Kern

end
-- ==== Proof.KRun.lean ====
/- The kernel's run: every buffer of the core ends at the contents the chain of stretches and regions leaves. -/
module

public import proofs.«01_k».proof.Proof.Gen.KernelIdeal.Frame

@[expose] public section

noncomputable section

namespace Cert.Block.Kern

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- The launch theorem's implicit arguments are found by unifying its conclusion with this one.
set_option backward.isDefEq.respectTransparency.types false in
/-- The launch, from any memory with zero counters: every execution terminates without a fault, and in every final state
    each unscoped buffer of a core holds what the last stretch of the chain leaves there. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W6 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun _ h _ => h)

/-- The launch again, read at the result array and at the arguments. -/
theorem run : θ_run defs (onTc (τ := τ) (main (F := F))) ⟨m, fun _ => 0, ρ⟩ (fun r => ∀ c : Dev nD,
      r.2.mem ((c.tc : Thread nD τ).loc main_v48) = W6 m ρ c (Proc.devRef .tc main_v48)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
      have a : ∀ b : Ref sig .tc, b ∈ argRefs → ¬ (Proc.devRef .tc b : DevRef τ sig).isScoped →
          r.2.mem ((c.tc : Thread nD τ).loc b) = m ((c.tc : Thread nD τ).loc b) :=
        fun b hb hs => (h c _ (mem_uc b hs)).trans (W6_args m ρ c b hb)
      ⟨h c _ (mem_uc main_v48 (by decide)),
       a main_arg0 (by decide) (by decide),
       a main_arg1 (by decide) (by decide),
       a main_arg2 (by decide) (by decide),
       a main_arg3 (by decide) (by decide),
       a main_arg4 (by decide) (by decide),
       a main_arg5 (by decide) (by decide),
       a main_arg6 (by decide) (by decide),
       a main_arg7 (by decide) (by decide),
       a main_arg8 (by decide) (by decide),
       a main_arg9 (by decide) (by decide),
       a main_arg10 (by decide) (by decide),
       a main_arg11 (by decide) (by decide),
       a main_arg12 (by decide) (by decide),
       a main_arg13 (by decide) (by decide),
       a main_arg14 (by decide) (by decide)⟩)
    (run_all m ρ)

end Cert.Block.Kern

end
-- ==== Proof.RefNorm.lean ====
/- The reference's layer norm on real arrays. -/
module

public import proofs.«01_k».proof.Proof.Spec
public import proofs.«01_k».proof.Proof.Gen.ReferenceIdeal

@[expose] public section

set_option maxRecDepth 16384

noncomputable section

namespace Cert.Block.Ref

open Idealize.ShloMosaic Cert.ReferenceIdeal Cert.ReferenceIdeal.Gen

/-- The tokens less their means, as the reference computes them. -/
def cen (X : FVec Ideal S1x2048x768 .f32) : FVec Ideal S1x2048x768 .f32 :=
  subf X (broadcastInDim S1x2048x768 ![0, 1, 2] bcast_S1x2048x1_S1x2048x768_0_1_2 (Host.divf (broadcastInDim S1x2048x1 ![0, 1] bcast_S1x2048_S1x2048x1_0_1 (Host.reduceAdd X (constant S_ .f32 0x00000000#32) reducesTo_S1x2048x768_S1x2048_d2 h_S_)) (broadcastInDim S1x2048x1 ![] bcast_S_S1x2048x1 (constant S_ .f32 0x44400000#32))))

/-- The number the squares' sum is divided by: the row length less zero. -/
def cnt : FVec Ideal S_ .f32 := subf (constant S_ .f32 0x44400000#32) (sitofp .f32 (constantI S_ 32 0#32))

/-- The variances, one per token. -/
def vars (X : FVec Ideal S1x2048x768 .f32) : FVec Ideal S1x2048x1 .f32 :=
  select (broadcastInDim S1x2048x1 ![] bcast_S_S1x2048x1 (cmpf .ogt cnt (constant S_ .f32 0x00000000#32))) (Host.divf (broadcastInDim S1x2048x1 ![0, 1] bcast_S1x2048_S1x2048x1_0_1 (Host.reduceAdd (mulf (cen X) (cen X)) (constant S_ .f32 0x00000000#32) reducesTo_S1x2048x768_S1x2048_d2 h_S_)) (broadcastInDim S1x2048x1 ![] bcast_S_S1x2048x1 cnt)) (broadcastInDim S1x2048x1 ![] bcast_S_S1x2048x1 (id (constant S_ .f32 0x7FC00000#32)))

/-- The layer norm of the tokens. -/
def norm (X : FVec Ideal S1x2048x768 .f32) (g b : FVec Ideal S768 .f32) : FVec Ideal S1x2048x768 .f32 :=
  addf (mulf (Host.divf (cen X) (broadcastInDim S1x2048x768 ![0, 1, 2] bcast_S1x2048x1_S1x2048x768_0_1_2 (Host.sqrt (addf (vars X) (broadcastInDim S1x2048x1 ![] bcast_S_S1x2048x1 (constant S_ .f32 0x3727C5AC#32)))))) (broadcastInDim S1x2048x768 ![0, 1, 2] bcast_S1x1x768_S1x2048x768_0_1_2 (broadcastInDim S1x1x768 ![2] bcast_S768_S1x1x768_2 g))) (broadcastInDim S1x2048x768 ![0, 1, 2] bcast_S1x1x768_S1x2048x768_0_1_2 (broadcastInDim S1x1x768 ![2] bcast_S768_S1x1x768_2 b))

/-- Rows less their mean, on real rows. -/
theorem cen_up (f : Fin 2048 → Fin 768 → ℝ) :
    cen (up3 (n := 1) fun _ => f) = up3 (n := 1) fun _ n k => f n k - mean (f n) := by
  funext j; idx_vars j
  pointwise [cen, up3]
  simp only [coe_sum]
  rw [word_768, div_real _ _ (by norm_num), ← EReal.coe_sub]
  rfl

/-- The divisor of the variance is the row length. -/
theorem cnt_eq : cnt = fun _ => ((768 : ℝ) : EReal) := by
  funext j
  pointwise [cnt]
  rw [word_768, show FloatOps.sitofp (F := Ideal) FTy.f32 0#32 = ((0 : ℝ) : EReal) from by
    show (((0#32 : BitVec 32).toInt : ℝ) : EReal) = _
    simp, ← EReal.coe_sub, sub_zero]

/-- The variances of real rows. -/
theorem vars_up (f : Fin 2048 → Fin 768 → ℝ) :
    vars (up3 (n := 1) fun _ => f) = up3 (n := 1) fun _ n _ => var (f n) := by
  unfold vars
  rw [cen_up, cnt_eq]
  funext j; idx_vars j
  pointwise [up3]
  rw [if_pos (EReal.coe_pos.mpr (by norm_num))]
  simp only [← EReal.coe_mul, coe_sum]
  rw [div_real _ _ (by norm_num)]
  rfl

/-- The layer norm of real rows. -/
theorem norm_up (f : Fin 2048 → Fin 768 → ℝ) (g b : Fin 768 → ℝ) :
    norm (up3 (n := 1) fun _ => f) (up1 g) (up1 b) = up3 (n := 1) fun _ n => ln (f n) g b := by
  unfold norm
  rw [cen_up, vars_up]
  funext j; idx_vars j
  pointwise [up3, up1]
  rw [word_eps, ← EReal.coe_add, sqrt_real _ (var_eps_pos _).le,
    div_real _ _ (Real.sqrt_pos.mpr (var_eps_pos _)).ne', ← EReal.coe_mul, ← EReal.coe_add]
  rfl

end Cert.Block.Ref

end
-- ==== Proof.RefExp.lean ====
/- The reference's softmax numerators on real arrays. -/
module

public import proofs.«01_k».proof.Proof.Spec
public import proofs.«01_k».proof.Proof.Gen.ReferenceIdeal

@[expose] public section

set_option maxRecDepth 16384

noncomputable section

namespace Cert.Block.Ref

open Idealize.ShloMosaic Cert.ReferenceIdeal Cert.ReferenceIdeal.Gen

/-- The greatest score of every row. -/
def rowmax (S : FVec Ideal S1x12x2048x2048 .f32) : FVec Ideal S1x12x2048 .f32 :=
  Host.reduce FloatOps.maximumf S (constant S_ .f32 0xFF800000#32) reducesTo_S1x12x2048x2048_S1x12x2048_d3 h_S_

/-- The exponentials of the scores less a number per row. -/
def shifted (S : FVec Ideal S1x12x2048x2048 .f32) (r : FVec Ideal S1x12x2048 .f32) :
    FVec Ideal S1x12x2048x2048 .f32 :=
  Host.exp (subf S (broadcastInDim S1x12x2048x2048 ![0, 1, 2, 3] bcast_S1x12x2048x1_S1x12x2048x2048_0_1_2_3 (broadcastInDim S1x12x2048x1 ![0, 1, 2] bcast_S1x12x2048_S1x12x2048x1_0_1_2 (maximumf (broadcastInDim S1x12x2048 ![] bcast_S_S1x12x2048 (constant S_ .f32 0xFF800000#32)) r))))

/-- The exponentials of the scores less their row's greatest. -/
def exps (S : FVec Ideal S1x12x2048x2048 .f32) : FVec Ideal S1x12x2048x2048 .f32 := shifted S (rowmax S)

/-- An entry of the shifted exponentials. -/
theorem shifted_at (S : FVec Ideal S1x12x2048x2048 .f32) (r : FVec Ideal S1x12x2048 .f32) (h : Fin 12)
    (n m : Fin 2048) :
    shifted S r (ix4 0 h n m) = Ideal.exp (S (ix4 0 h n m) - max (Ideal.ofBits .f32 0xFF800000#32) (r (ix3 0 h n))) := by
  unfold shifted
  pointwise

/-- A row's greatest score is the fold of the maximum over it. -/
theorem rowmax_at (S : FVec Ideal S1x12x2048x2048 .f32) (h : Fin 12) (n : Fin 2048) :
    rowmax S (ix3 0 h n)
      = Finset.univ.fold max (Ideal.ofBits .f32 0xFF800000#32) fun k : Fin 2048 => S (ix4 0 h n k) := by
  unfold rowmax
  pointwise

/-- The greatest of finitely many reals, at least one, is a real. -/
theorem fold_real {ι : Type} [DecidableEq ι] (b : EReal) (hb : b = ⊥) (g : ι → EReal) (f : ι → ℝ)
    (hg : ∀ k, g k = ((f k : ℝ) : EReal)) (s : Finset ι) :
    (s = ∅ ∧ s.fold max b g = ⊥) ∨ ∃ M : ℝ, s.fold max b g = (M : EReal) := by
  subst hb
  induction s using Finset.induction_on with
  | empty => exact .inl ⟨rfl, Finset.fold_empty⟩
  | insert a s ha ih =>
    right
    rw [Finset.fold_insert ha, hg a]
    rcases ih with ⟨-, ih⟩ | ⟨M, ih⟩
    · exact ⟨f a, by rw [ih]; exact max_bot_right _⟩
    · exact ⟨max (f a) M, by rw [ih]; exact (EReal.coe_strictMono.monotone.map_max).symm⟩

/-- The same over a set known not to be empty. -/
theorem fold_real_of_nonempty {ι : Type} [DecidableEq ι] (b : EReal) (hb : b = ⊥) (g : ι → EReal) (f : ι → ℝ)
    (hg : ∀ k, g k = ((f k : ℝ) : EReal)) (s : Finset ι) (hs : s.Nonempty) :
    ∃ M : ℝ, s.fold max b g = (M : EReal) := by
  rcases fold_real b hb g f hg s with ⟨h0, -⟩ | h
  · exact absurd h0 hs.ne_empty
  · exact h

/-- The greatest score of a row of real scores is a real. -/
theorem rowmax_real (S : FVec Ideal S1x12x2048x2048 .f32) (s : Fin 12 → Fin 2048 → Fin 2048 → ℝ)
    (hS : ∀ h n m, S (ix4 0 h n m) = ((s h n m : ℝ) : EReal)) (h : Fin 12) (n : Fin 2048) :
    ∃ M : ℝ, rowmax S (ix3 0 h n) = ((M : ℝ) : EReal) := by
  rw [rowmax_at]
  exact fold_real_of_nonempty _ word_bot _ (fun k => s h n k) (fun k => hS h n k) _ Finset.univ_nonempty

/-- The softmax's numerators are exponentials of the scores less some real number per row. -/
theorem exps_up (s : Fin 12 → Fin 2048 → Fin 2048 → ℝ) :
    ∃ M : Fin 12 → Fin 2048 → ℝ, exps (up4 (n := 1) fun _ => s) =
      up4 (n := 1) fun _ h n m => Real.exp (s h n m - M h n) := by
  choose M hM using rowmax_real (up4 (n := 1) fun _ => s) s (fun _ _ _ => rfl)
  refine ⟨M, funext fun j => ?_⟩
  idx_vars j
  rw [Subsingleton.elim j0 0]
  rw [exps, shifted_at, hM, word_bot, max_bot_left, up4_ix, up4_ix, ← EReal.coe_sub]
  rfl

end Cert.Block.Ref

end
-- ==== Proof.RefAtt.lean ====
/- The reference's stages on real arrays. -/
module

public import proofs.«01_k».proof.Proof.RefNorm
public import proofs.«01_k».proof.Proof.RefExp

@[expose] public section

set_option maxRecDepth 16384

noncomputable section

namespace Cert.Block.Ref

open Idealize.ShloMosaic Cert.ReferenceIdeal Cert.ReferenceIdeal.Gen

/-- The joint projection, its axes in the order of use: (queries, keys or values), batch, head, token, coordinate. -/
def proj (N : FVec Ideal S1x2048x768 .f32) (W : FVec Ideal S768x2304 .f32) (B : FVec Ideal S2304 .f32) :
    FVec Ideal S3x1x12x2048x64 .f32 :=
  transpose S3x1x12x2048x64 [2, 0, 3, 1, 4] (shapeCast _ (addf (Host.dotGeneral dot_S1x2048x768_S768x2304_S1x2048x2304_2_0_01_1_n_n none N W) (broadcastInDim S1x2048x2304 ![0, 1, 2] bcast_S1x1x2304_S1x2048x2304_0_1_2 (broadcastInDim S1x1x2304 ![2] bcast_S2304_S1x1x2304_2 B))) shapeCasts_S1x2048x2304_S1x2048x3x12x64) transposes_S1x2048x3x12x64_S3x1x12x2048x64_2_0_3_1_4

/-- An entry of the joint projection, cut into queries, keys and values by head. -/
theorem proj_at (f : Fin 2048 → Fin 768 → ℝ) (W : Fin 768 → Fin 2304 → ℝ) (B : Fin 2304 → ℝ)
    (s : Fin 3) (h : Fin 12) (n : Fin 2048) (d : Fin 64) :
    proj (up3 (n := 1) fun _ => f) (up2 W) (up1 B) (ix5 s 0 h n d) =
      ((∑ k, f n k * W k (col s h d) + B (col s h d) : ℝ) : EReal) := by
  pointwise [proj, up3, up2, up1]
  simp only [← EReal.coe_mul, coe_sum, ← EReal.coe_add]
  have e : ∀ hlt, (⟨s.val * 768 + h.val * 64 + d.val, hlt⟩ : Fin 2304) = col s h d := fun hlt =>
    Fin.ext (by show s.val * 768 + h.val * 64 + d.val = (s.val * 12 + h.val) * 64 + d.val; omega)
  simp only [e]

/-- The scores. -/
def scores (P : FVec Ideal S3x1x12x2048x64 .f32) : FVec Ideal S1x12x2048x2048 .f32 :=
  mulf (broadcastInDim S1x12x2048x2048 ![1, 2, 3] bcast_S12x2048x2048_S1x12x2048x2048_1_2_3 (Host.dotGeneral dot_S12x2048x64_S12x64x2048_S12x2048x2048_2_1_1_2_0_0 none (shapeCast _ (shapeCast _ (extractStridedSlice S1x1x12x2048x64 ![0, 0, 0, 0, 0] P slices_S3x1x12x2048x64_S1x1x12x2048x64_0_0_0_0_0) shapeCasts_S1x1x12x2048x64_S1x12x2048x64) shapeCasts_S1x12x2048x64_S12x2048x64) (shapeCast _ (transpose S1x12x64x2048 [0, 1, 3, 2] (shapeCast _ (extractStridedSlice S1x1x12x2048x64 ![1, 0, 0, 0, 0] P slices_S3x1x12x2048x64_S1x1x12x2048x64_1_0_0_0_0) shapeCasts_S1x1x12x2048x64_S1x12x2048x64) transposes_S1x12x2048x64_S1x12x64x2048_0_1_3_2) shapeCasts_S1x12x64x2048_S12x64x2048))) (broadcastInDim S1x12x2048x2048 ![] bcast_S_S1x12x2048x2048 (constant S_ .f32 0x3E000000#32))

/-- The scores of real queries and keys. -/
theorem scores_up (P : FVec Ideal S3x1x12x2048x64 .f32) (q : Fin 3 → Fin 12 → Fin 2048 → Fin 64 → ℝ)
    (hP : ∀ s h n d, P (ix5 s 0 h n d) = ((q s h n d : ℝ) : EReal)) :
    scores P = up4 (n := 1) fun _ h n m => (∑ d, q 0 h n d * q 1 h m d) * (1 / 8) := by
  funext j; idx_vars j
  pointwise [scores, up4]
  simp only [hP]
  rw [word_eighth]
  simp only [← EReal.coe_mul, coe_sum]

/-- The attention of every head, the heads side by side. -/
def attn (E : FVec Ideal S1x12x2048x2048 .f32) (P : FVec Ideal S3x1x12x2048x64 .f32) : FVec Ideal S1x2048x768 .f32 :=
  shapeCast _ (transpose S1x2048x12x64 [0, 2, 1, 3] (broadcastInDim S1x12x2048x64 ![1, 2, 3] bcast_S12x2048x64_S1x12x2048x64_1_2_3 (Host.dotGeneral dot_S12x2048x2048_S12x2048x64_S12x2048x64_2_1_1_2_0_0 none (shapeCast _ (Host.divf E (broadcastInDim S1x12x2048x2048 ![0, 1, 2, 3] bcast_S1x12x2048x1_S1x12x2048x2048_0_1_2_3 (broadcastInDim S1x12x2048x1 ![0, 1, 2] bcast_S1x12x2048_S1x12x2048x1_0_1_2 (Host.reduceAdd E (constant S_ .f32 0x00000000#32) reducesTo_S1x12x2048x2048_S1x12x2048_d3 h_S_)))) shapeCasts_S1x12x2048x2048_S12x2048x2048) (shapeCast _ (shapeCast _ (extractStridedSlice S1x1x12x2048x64 ![2, 0, 0, 0, 0] P slices_S3x1x12x2048x64_S1x1x12x2048x64_2_0_0_0_0) shapeCasts_S1x1x12x2048x64_S1x12x2048x64) shapeCasts_S1x12x2048x64_S12x2048x64))) transposes_S1x12x2048x64_S1x2048x12x64_0_2_1_3) shapeCasts_S1x2048x12x64_S1x2048x768

/-- The attention of real exponentials with positive row sums. -/
theorem attn_up (e : Fin 12 → Fin 2048 → Fin 2048 → ℝ) (he : ∀ h n, 0 < ∑ m, e h n m)
    (P : FVec Ideal S3x1x12x2048x64 .f32) (q : Fin 3 → Fin 12 → Fin 2048 → Fin 64 → ℝ)
    (hP : ∀ s h n d, P (ix5 s 0 h n d) = ((q s h n d : ℝ) : EReal)) :
    attn (up4 (n := 1) fun _ => e) P = up3 (n := 1) fun _ n c =>
      ∑ m, e (hd c) n m / (∑ m', e (hd c) n m') * q 2 (hd c) m (co c) := by
  funext j; idx_vars j
  pointwise [attn, up4, up3]
  simp only [hP, coe_sum]
  simp only [div_real _ _ (he _ _).ne', ← EReal.coe_mul, coe_sum]
  rfl

end Cert.Block.Ref

end
-- ==== Proof.RefTail.lean ====
/- The reference's residual steps and its hidden layer on real arrays, and the reference's whole value. -/
module

public import proofs.«01_k».proof.Proof.RefAtt
public import proofs.«01_k».proof.Proof.Gen.ReferenceIdeal.Run

@[expose] public section

set_option maxRecDepth 16384

noncomputable section

namespace Cert.Block.Ref

open Idealize.ShloMosaic Idealize.ShloMosaic.TcCoe Cert.ReferenceIdeal Cert.ReferenceIdeal.Gen

/-- The first residual step. -/
def step (X T : FVec Ideal S1x2048x768 .f32) (pw : FVec Ideal S768x768 .f32) (pb s1 : FVec Ideal S768 .f32) :
    FVec Ideal S1x2048x768 .f32 :=
  addf X (mulf (addf (Host.dotGeneral dot_S1x2048x768_S768x768_S1x2048x768_2_0_01_1_n_n none T pw) (broadcastInDim S1x2048x768 ![0, 1, 2] bcast_S1x1x768_S1x2048x768_0_1_2 (broadcastInDim S1x1x768 ![2] bcast_S768_S1x1x768_2 pb))) (broadcastInDim S1x2048x768 ![0, 1, 2] bcast_S1x1x768_S1x2048x768_0_1_2 (broadcastInDim S1x1x768 ![2] bcast_S768_S1x1x768_2 s1)))

/-- The first residual step on real arrays. -/
theorem step_up (x t : Fin 2048 → Fin 768 → ℝ) (pw : Fin 768 → Fin 768 → ℝ) (pb s1 : Fin 768 → ℝ) :
    step (up3 (n := 1) fun _ => x) (up3 (n := 1) fun _ => t) (up2 pw) (up1 pb) (up1 s1) =
      up3 (n := 1) fun _ n k => x n k + (∑ c, t n c * pw c k + pb k) * s1 k := by
  funext j; idx_vars j
  pointwise [step, up3, up2, up1]
  simp only [← EReal.coe_mul, coe_sum, ← EReal.coe_add]

/-- The hidden layer before its nonlinearity. -/
def hidden (N : FVec Ideal S1x2048x768 .f32) (w1 : FVec Ideal S768x3072 .f32) (c1 : FVec Ideal S3072 .f32) :
    FVec Ideal S1x2048x3072 .f32 :=
  addf (Host.dotGeneral dot_S1x2048x768_S768x3072_S1x2048x3072_2_0_01_1_n_n none N w1) (broadcastInDim S1x2048x3072 ![0, 1, 2] bcast_S1x1x3072_S1x2048x3072_0_1_2 (broadcastInDim S1x1x3072 ![2] bcast_S3072_S1x1x3072_2 c1))

/-- The hidden layer on real arrays. -/
theorem hidden_up (x : Fin 2048 → Fin 768 → ℝ) (w1 : Fin 768 → Fin 3072 → ℝ) (c1 : Fin 3072 → ℝ) :
    hidden (up3 (n := 1) fun _ => x) (up2 w1) (up1 c1) =
      up3 (n := 1) fun _ n j => ∑ k, x n k * w1 k j + c1 j := by
  funext j; idx_vars j
  pointwise [hidden, up3, up2, up1]
  simp only [← EReal.coe_mul, coe_sum, ← EReal.coe_add]

/-- The Gaussian error linear unit, the second layer and the second residual step. -/
def last (X : FVec Ideal S1x2048x768 .f32) (H : FVec Ideal S1x2048x3072 .f32) (w2 : FVec Ideal S3072x768 .f32)
    (c2 s2 : FVec Ideal S768 .f32) : FVec Ideal S1x2048x768 .f32 :=
  addf X (mulf (addf (Host.dotGeneral dot_S1x2048x3072_S3072x768_S1x2048x768_2_0_01_1_n_n none (mulf (mulf (broadcastInDim S1x2048x3072 ![] bcast_S_S1x2048x3072 (constant S_ .f32 0x3F000000#32)) H) (addf (broadcastInDim S1x2048x3072 ![] bcast_S_S1x2048x3072 (constant S_ .f32 0x3F800000#32)) (Host.erf (Host.divf H (broadcastInDim S1x2048x3072 ![] bcast_S_S1x2048x3072 (id (Host.sqrt (constant S_ .f32 0x40000000#32)))))))) w2) (broadcastInDim S1x2048x768 ![0, 1, 2] bcast_S1x1x768_S1x2048x768_0_1_2 (broadcastInDim S1x1x768 ![2] bcast_S768_S1x1x768_2 c2))) (broadcastInDim S1x2048x768 ![0, 1, 2] bcast_S1x1x768_S1x2048x768_0_1_2 (broadcastInDim S1x1x768 ![2] bcast_S768_S1x1x768_2 s2)))

/-- One is the real number one. -/
theorem word_1' : (1 : EReal) = ((1 : ℝ) : EReal) := rfl

/-- The last stage on real arrays. -/
theorem last_up (x : Fin 2048 → Fin 768 → ℝ) (u : Fin 2048 → Fin 3072 → ℝ) (w2 : Fin 3072 → Fin 768 → ℝ)
    (c2 s2 : Fin 768 → ℝ) :
    last (up3 (n := 1) fun _ => x) (up3 (n := 1) fun _ => u) (up2 w2) (up1 c2) (up1 s2) =
      up3 (n := 1) fun _ n k => x n k +
        (∑ j, 1 / 2 * u n j * (1 + erfR (u n j / Real.sqrt 2)) * w2 j k + c2 k) * s2 k := by
  funext j; idx_vars j
  pointwise [last, up3, up2, up1, id]
  rw [word_half, word_2, sqrt_real _ (by norm_num)]
  simp only [div_real _ _ (Real.sqrt_pos.mpr (by norm_num : (0 : ℝ) < 2)).ne', erf_real, word_1', ← EReal.coe_mul,
    ← EReal.coe_add, coe_sum]

/-- The reference's tokens after the first residual step, the composed term cut into the stages above. -/
theorem mid_eq (V : Valuation τ sig (Elt Ideal)) :
    Value.res_main_v61 V = step (V (Proc.devRef .tc main_arg0))
      (attn (exps (scores (proj (norm (V (Proc.devRef .tc main_arg0)) (V (Proc.devRef .tc main_arg1)) (V (Proc.devRef .tc main_arg2)))
          (V (Proc.devRef .tc main_arg3)) (V (Proc.devRef .tc main_arg4)))))
        (proj (norm (V (Proc.devRef .tc main_arg0)) (V (Proc.devRef .tc main_arg1)) (V (Proc.devRef .tc main_arg2)))
          (V (Proc.devRef .tc main_arg3)) (V (Proc.devRef .tc main_arg4))))
      (V (Proc.devRef .tc main_arg5)) (V (Proc.devRef .tc main_arg6)) (V (Proc.devRef .tc main_arg7)) := rfl

/-- The softmax does not depend on the number the scores are shifted by. -/
theorem softmax_shift (s : Fin 2048 → ℝ) (M : ℝ) (m : Fin 2048) :
    Real.exp (s m - M) / (∑ m', Real.exp (s m' - M)) = Real.exp (s m) / ∑ m', Real.exp (s m') := by
  simp only [Real.exp_sub]
  rw [← Finset.sum_div, div_div_div_cancel_right₀ (Real.exp_ne_zero M)]

/-- The tokens after the first residual step are the specification's. -/
theorem mid_up (A : Args) (V : Valuation τ sig (Elt Ideal))
    (h0 : V (Proc.devRef .tc main_arg0) = up3 (n := 1) fun _ => A.x)
    (h1 : V (Proc.devRef .tc main_arg1) = up1 A.g1) (h2 : V (Proc.devRef .tc main_arg2) = up1 A.b1)
    (h3 : V (Proc.devRef .tc main_arg3) = up2 A.W) (h4 : V (Proc.devRef .tc main_arg4) = up1 A.B)
    (h5 : V (Proc.devRef .tc main_arg5) = up2 A.pw) (h6 : V (Proc.devRef .tc main_arg6) = up1 A.pb)
    (h7 : V (Proc.devRef .tc main_arg7) = up1 A.s1) :
    Value.res_main_v61 V = up3 (n := 1) fun _ => A.mid := by
  rw [mid_eq, h0, h1, h2, h3, h4, h5, h6, h7, norm_up]
  have hP : ∀ s h n d, proj (up3 (n := 1) fun _ n => ln (A.x n) A.g1 A.b1) (up2 A.W) (up1 A.B) (ix5 s 0 h n d) =
      ((A.qkv n (col s h d) : ℝ) : EReal) := fun s h n d => proj_at _ _ _ s h n d
  generalize proj (up3 (n := 1) fun _ n => ln (A.x n) A.g1 A.b1) (up2 A.W) (up1 A.B) = P at hP
  rw [scores_up P (fun s h n d => A.qkv n (col s h d)) hP]
  obtain ⟨M, hM⟩ := exps_up A.score
  rw [show (fun (_ : Fin 1) h n m => (∑ d, A.qkv n (col 0 h d) * A.qkv m (col 1 h d)) * (1 / 8)) =
    fun _ => A.score from rfl, hM,
    attn_up (fun h n m => Real.exp (A.score h n m - M h n))
      (fun h n => Finset.sum_pos (fun _ _ => Real.exp_pos _) Finset.univ_nonempty) P _ hP, step_up]
  simp only [softmax_shift]
  rfl

/-- The reference's value on real arguments. -/
theorem value (A : Args) (V : Valuation τ sig (Elt Ideal))
    (h0 : V (Proc.devRef .tc main_arg0) = up3 (n := 1) fun _ => A.x)
    (h1 : V (Proc.devRef .tc main_arg1) = up1 A.g1) (h2 : V (Proc.devRef .tc main_arg2) = up1 A.b1)
    (h3 : V (Proc.devRef .tc main_arg3) = up2 A.W) (h4 : V (Proc.devRef .tc main_arg4) = up1 A.B)
    (h5 : V (Proc.devRef .tc main_arg5) = up2 A.pw) (h6 : V (Proc.devRef .tc main_arg6) = up1 A.pb)
    (h7 : V (Proc.devRef .tc main_arg7) = up1 A.s1) (h8 : V (Proc.devRef .tc main_arg8) = up1 A.g2)
    (h9 : V (Proc.devRef .tc main_arg9) = up1 A.b2) (h10 : V (Proc.devRef .tc main_arg10) = up2 A.w1)
    (h11 : V (Proc.devRef .tc main_arg11) = up1 A.c1) (h12 : V (Proc.devRef .tc main_arg12) = up2 A.w2)
    (h13 : V (Proc.devRef .tc main_arg13) = up1 A.c2) (h14 : V (Proc.devRef .tc main_arg14) = up1 A.s2) :
    last (Value.res_main_v61 V) (Value.res_main_v83 V) (V (Proc.devRef .tc main_arg12))
      (V (Proc.devRef .tc main_arg13)) (V (Proc.devRef .tc main_arg14)) = up3 (n := 1) fun _ => A.res := by
  have hh : Value.res_main_v83 V = up3 (n := 1) fun _ => A.hid := by
    rw [show Value.res_main_v83 V = hidden (norm (Value.res_main_v61 V) (V (Proc.devRef .tc main_arg8))
      (V (Proc.devRef .tc main_arg9))) (V (Proc.devRef .tc main_arg10)) (V (Proc.devRef .tc main_arg11)) from rfl,
      mid_up A V h0 h1 h2 h3 h4 h5 h6 h7, h8, h9, h10, h11, norm_up, hidden_up]
    rfl
  rw [hh, mid_up A V h0 h1 h2 h3 h4 h5 h6 h7, h12, h13, h14, last_up]
  rfl

end Cert.Block.Ref

end
-- ==== Proof.Algebraic.lean ====
/- The value claim: on finite arguments the kernel and the reference end with the same array, the specification's. -/
module

public import proofs.«01_k».proof.Defs
public import proofs.«01_k».proof.Proof.Finite
public import proofs.«01_k».proof.Proof.KValue
public import proofs.«01_k».proof.Proof.KRun
public import proofs.«01_k».proof.Proof.RefTail
public import proofs.«01_k».proof.Proof.Gen.Kernel
public import proofs.«01_k».proof.Proof.Gen.Pre_finite

@[expose] public section

noncomputable section

open Idealize.ShloMosaic Idealize.ShloMosaic.TcCoe Idealize.SL.Sem

namespace Cert.Block

/-- A real number is its own real part. -/
theorem coe_of_real {a : EReal} (h : a ≠ ⊤ ∧ a ≠ ⊥) : ((a.toReal : ℝ) : EReal) = a := EReal.coe_toReal h.1 h.2

/-- A vector of real numbers, carried up from its entries' real parts. -/
theorem eq_up1 {n : Nat} (x : (⟨1, ![n]⟩ : Shape).Idx → EReal) (h : AllReal x) : x = up1 fun a => (x (ix1 a)).toReal := by
  funext j
  rw [show j = ix1 (j 0) from funext fun d => by fin_cases d; rfl]
  exact (coe_of_real (h _)).symm

/-- A matrix of real numbers, likewise. -/
theorem eq_up2 {n k : Nat} (x : (⟨2, ![n, k]⟩ : Shape).Idx → EReal) (h : AllReal x) : x = up2 fun a b => (x (ix2 a b)).toReal := by
  funext j
  rw [show j = ix2 (j 0) (j 1) from funext fun d => by fin_cases d <;> rfl]
  exact (coe_of_real (h _)).symm

/-- An array of real numbers whose first axis has one index, likewise. -/
theorem eq_up3 {n k : Nat} (x : (⟨3, ![1, n, k]⟩ : Shape).Idx → EReal) (h : AllReal x) :
    x = up3 (n := 1) fun _ a b => (x (ix3 0 a b)).toReal := by
  funext j
  rw [show j = ix3 0 (j 1) (j 2) from funext fun d => by
    fin_cases d
    · exact Subsingleton.elim (α := Fin 1) _ _
    all_goals rfl]
  exact (coe_of_real (h _)).symm

section
open Cert.KernelIdeal

variable (m : (ℓ : Loc nD τ sig) → Buf (Elt Ideal) ℓ) (c : Dev nD)

/-- The real arguments a device's argument arrays hold. -/
def argsOf : Args where
  x := fun a b => EReal.toReal ((m ((c : Thread nD τ).loc main_arg0) : S1x2048x768.Idx → EReal) (ix3 0 a b))
  g1 := fun a => EReal.toReal ((m ((c : Thread nD τ).loc main_arg1) : S768.Idx → EReal) (ix1 a))
  b1 := fun a => EReal.toReal ((m ((c : Thread nD τ).loc main_arg2) : S768.Idx → EReal) (ix1 a))
  W := fun a b => EReal.toReal ((m ((c : Thread nD τ).loc main_arg3) : S768x2304.Idx → EReal) (ix2 a b))
  B := fun a => EReal.toReal ((m ((c : Thread nD τ).loc main_arg4) : S2304.Idx → EReal) (ix1 a))
  pw := fun a b => EReal.toReal ((m ((c : Thread nD τ).loc main_arg5) : S768x768.Idx → EReal) (ix2 a b))
  pb := fun a => EReal.toReal ((m ((c : Thread nD τ).loc main_arg6) : S768.Idx → EReal) (ix1 a))
  s1 := fun a => EReal.toReal ((m ((c : Thread nD τ).loc main_arg7) : S768.Idx → EReal) (ix1 a))
  g2 := fun a => EReal.toReal ((m ((c : Thread nD τ).loc main_arg8) : S768.Idx → EReal) (ix1 a))
  b2 := fun a => EReal.toReal ((m ((c : Thread nD τ).loc main_arg9) : S768.Idx → EReal) (ix1 a))
  w1 := fun a b => EReal.toReal ((m ((c : Thread nD τ).loc main_arg10) : S768x3072.Idx → EReal) (ix2 a b))
  c1 := fun a => EReal.toReal ((m ((c : Thread nD τ).loc main_arg11) : S3072.Idx → EReal) (ix1 a))
  w2 := fun a b => EReal.toReal ((m ((c : Thread nD τ).loc main_arg12) : S3072x768.Idx → EReal) (ix2 a b))
  c2 := fun a => EReal.toReal ((m ((c : Thread nD τ).loc main_arg13) : S768.Idx → EReal) (ix1 a))
  s2 := fun a => EReal.toReal ((m ((c : Thread nD τ).loc main_arg14) : S768.Idx → EReal) (ix1 a))

/-- Under the precondition a device's argument arrays hold them. -/
theorem holds_argsOf (h : Cert.Pre_KernelIdeal_finite m) : Kern.Holds m c (argsOf m c) := by
  obtain ⟨h0, h1, h2, h3, h4, h5, h6, h7, h8, h9, h10, h11, h12, h13, h14⟩ := Pre.all_real _ _ _ _ _ _ _ _ _ _ _ _ _ _ _ (h c)
  exact ⟨eq_up3 _ h0, eq_up1 _ h1, eq_up1 _ h2, eq_up2 _ h3, eq_up1 _ h4, eq_up2 _ h5, eq_up1 _ h6, eq_up1 _ h7, eq_up1 _ h8, eq_up1 _ h9, eq_up2 _ h10, eq_up1 _ h11, eq_up2 _ h12, eq_up1 _ h13, eq_up1 _ h14⟩

end

section
open Cert.ReferenceIdeal Idealize.ShloMosaic.StableHlo

/-- The reference's run from memories that hold the real arguments `A c`: its result is the specification's block. -/
theorem ref_run (m : (ℓ : Loc nD τ sig) → Buf (Elt Ideal) ℓ) (ρ : Dev nD → PrngReg) (A : Dev nD → Args)
    (h : ∀ c : Dev nD,
      m ((c : Thread nD τ).loc main_arg0) = (up3 (n := 1) fun _ => (A c).x : S1x2048x768.Idx → EReal)
      ∧ m ((c : Thread nD τ).loc main_arg1) = up1 (A c).g1
      ∧ m ((c : Thread nD τ).loc main_arg2) = up1 (A c).b1
      ∧ m ((c : Thread nD τ).loc main_arg3) = up2 (A c).W
      ∧ m ((c : Thread nD τ).loc main_arg4) = up1 (A c).B
      ∧ m ((c : Thread nD τ).loc main_arg5) = up2 (A c).pw
      ∧ m ((c : Thread nD τ).loc main_arg6) = up1 (A c).pb
      ∧ m ((c : Thread nD τ).loc main_arg7) = up1 (A c).s1
      ∧ m ((c : Thread nD τ).loc main_arg8) = up1 (A c).g2
      ∧ m ((c : Thread nD τ).loc main_arg9) = up1 (A c).b2
      ∧ m ((c : Thread nD τ).loc main_arg10) = up2 (A c).w1
      ∧ m ((c : Thread nD τ).loc main_arg11) = up1 (A c).c1
      ∧ m ((c : Thread nD τ).loc main_arg12) = up2 (A c).w2
      ∧ m ((c : Thread nD τ).loc main_arg13) = up1 (A c).c2
      ∧ m ((c : Thread nD τ).loc main_arg14) = up1 (A c).s2) :
    θ_run (defs (F := Ideal)) (onTc (τ := τ) (main (F := Ideal))) ⟨m, fun _ => 0, ρ⟩ (fun r => ∀ c : Dev nD,
      r.2.mem ((c.tc : Thread nD τ).loc main_v101) = (up3 (n := 1) fun _ => (A c).res : S1x2048x768.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r hr c =>
      have e := h c
      ⟨(hr c).1.trans (Ref.value (A c) (launchContents m c) e.1 e.2.1 e.2.2.1 e.2.2.2.1 e.2.2.2.2.1 e.2.2.2.2.2.1 e.2.2.2.2.2.2.1 e.2.2.2.2.2.2.2.1 e.2.2.2.2.2.2.2.2.1 e.2.2.2.2.2.2.2.2.2.1 e.2.2.2.2.2.2.2.2.2.2.1 e.2.2.2.2.2.2.2.2.2.2.2.1 e.2.2.2.2.2.2.2.2.2.2.2.2.1 e.2.2.2.2.2.2.2.2.2.2.2.2.2.1 e.2.2.2.2.2.2.2.2.2.2.2.2.2.2), (hr c).2⟩)
    (Value.run (F := Ideal) m ρ)

end

end Cert.Block

namespace Cert.Proof

open Cert.Block

/-- On finite arguments the kernel and the reference both run, end with equal results and leave their arguments unchanged. -/
theorem algebraic : Cert.algebraic_KernelIdeal_ReferenceIdeal_pre_finite := by
  intro m g m' g' hp he
  have H : ∀ c, Kern.Holds m c (argsOf m c) := fun c => holds_argsOf m c hp
  refine ⟨fun c => (up3 (n := 1) fun _ => (argsOf m c).res : Cert.KernelIdeal.S1x2048x768.Idx → EReal), ?_, ?_⟩
  · exact (θ_run Cert.KernelIdeal.defs _ _).mono (fun r h c => ⟨(h c).1.trans (Kern.at6_out m g c (argsOf m c) (H c)), (h c).2⟩)
      (Kern.run m g)
  · refine ref_run m' g' (fun c => argsOf m c) fun c => ?_
    obtain ⟨e0, e1, e2, e3, e4, e5, e6, e7, e8, e9, e10, e11, e12, e13, e14⟩ := he c
    exact ⟨e0.trans (H c).h0, e1.trans (H c).h1, e2.trans (H c).h2, e3.trans (H c).h3, e4.trans (H c).h4, e5.trans (H c).h5, e6.trans (H c).h6, e7.trans (H c).h7, e8.trans (H c).h8, e9.trans (H c).h9, e10.trans (H c).h10, e11.trans (H c).h11, e12.trans (H c).h12, e13.trans (H c).h13, e14.trans (H c).h14⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import Idealize.ShloMosaic.Adequacy
public import Idealize.ShloMosaic.Init
public import proofs.«01_k».proof.Proof.Frames
public import proofs.«01_k».proof.Proof.Algebraic

@[expose] public section

noncomputable section

namespace Cert.Proof

/-- Everything the certificate claims. -/
theorem claim : Cert.Claim := ⟨Cert.Kernel.Gen.facts, Cert.KernelIdeal.Gen.facts, Cert.ReferenceIdeal.Gen.facts,
  Cert.Pre_finite.Gen.facts, frame_kernel, frame_kernelIdeal, frame_kernelIdeal_finite, frame_referenceIdeal,
  frame_referenceIdeal_finite, preserves, algebraic⟩

end Cert.Proof

end
